-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨3, ![1, 1024, 8192]⟩ ⟨3, ![1, 2048, 8192]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x32x128 : Shape := ⟨3, ![2048, 32, 128]⟩
abbrev S2048x4096 : Shape := ⟨2, ![2048, 4096]⟩
abbrev S256x32x128 : Shape := ⟨3, ![256, 32, 128]⟩
abbrev S256x4096 : Shape := ⟨2, ![256, 4096]⟩
abbrev S1024x8192 : Shape := ⟨2, ![1024, 8192]⟩
abbrev S2048x1024 : Shape := ⟨2, ![2048, 1024]⟩
abbrev S1024x1024 : Shape := ⟨2, ![1024, 1024]⟩
abbrev S8x1024x512 : Shape := ⟨3, ![8, 1024, 512]⟩
abbrev S1024x512 : Shape := ⟨2, ![1024, 512]⟩
abbrev S8 : Shape := ⟨1, ![8]⟩
abbrev S_ : Shape := ⟨0, ![]⟩
abbrev S1x1024x512 : Shape := ⟨3, ![1, 1024, 512]⟩
abbrev S1 : Shape := ⟨1, ![1]⟩
abbrev S1x1024x8192 : Shape := ⟨3, ![1, 1024, 8192]⟩

abbrev nBuf : Space → Nat
  | .hbm => 8
  | .vmem => 18
  | .smem => 0
  | _ => 0

abbrev bufTy : (tb : Table) → Fin (tcTables nBuf tb) → BufTy
  | .hbm, ⟨0, _⟩ => ⟨S1x2048x32x128, .f32⟩
  | .hbm, ⟨1, _⟩ => ⟨S4096x8192, .f32⟩
  | .hbm, ⟨2, _⟩ => ⟨S2048x32x128, .f32⟩
  | .hbm, ⟨3, _⟩ => ⟨S2048x4096, .f32⟩
  | .hbm, ⟨4, _⟩ => ⟨S1024x8192, .f32⟩
  | .hbm, ⟨5, _⟩ => ⟨S1024x8192, .bf16⟩
  | .hbm, ⟨6, _⟩ => ⟨S1024x8192, .f32⟩
  | .hbm, ⟨7, _⟩ => ⟨S1x1024x8192, .f32⟩
  | .local _ .vmem, ⟨0, _⟩ => ⟨S256x32x128, .f32⟩
  | .local _ .vmem, ⟨1, _⟩ => ⟨S256x32x128, .f32⟩
  | .local _ .vmem, ⟨2, _⟩ => ⟨S256x4096, .f32⟩
  | .local _ .vmem, ⟨3, _⟩ => ⟨S256x4096, .f32⟩
  | .local _ .vmem, ⟨4, _⟩ => ⟨S2048x1024, .f32⟩
  | .local _ .vmem, ⟨5, _⟩ => ⟨S2048x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024x512, .bf16⟩
  | .local _ .vmem, ⟨11, _⟩ => ⟨S1024x512, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S1x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 42
abbrev cc2_sem0_1 : DmaSem sig := 43
abbrev cc2_sem1_0 : DmaSem sig := 44
abbrev cc2_sem1_1 : DmaSem sig := 45
abbrev cc2_sem2_0 : DmaSem sig := 46
abbrev cc2_sem2_1 : DmaSem sig := 47
abbrev barrier0 : Sem sig := 0

abbrev nD : Nat := 4
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def k1_cond1 (i : grid1.Coords) : BitVec 1 :=
  let arg0 : BitVec 32 := BitVec.ofNat 32 (i 0).val
  let c0_i32 : BitVec 32 := 0#32
  let v8 : BitVec 1 := Scalar.cmpi .eq arg0 c0_i32
  let arg1 : BitVec 32 := BitVec.ofNat 32 (i 1).val
  let c0_i32_4 : BitVec 32 := 0#32
  let v9 : BitVec 1 := Scalar.cmpi .eq arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def k1_dev1 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v56 : BitVec 32 := Scalar.muli v6 c2_i32_30
  let v57 : BitVec 32 := Scalar.addi c0_i32_31 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v58 : BitVec 32 := Scalar.muli v5 c1_i32_32
  let v59 : BitVec 32 := Scalar.addi v57 v58
  v59.toNat
def k1_dev2 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v60 : BitVec 32 := Scalar.muli v2 c2_i32_34
  let v61 : BitVec 32 := Scalar.addi c0_i32_35 v60
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_36 : BitVec 32 := 1#32
  let v62 : BitVec 32 := Scalar.muli v7 c1_i32_36
  let v63 : BitVec 32 := Scalar.addi v61 v62
  v63.toNat
def k1_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v16 : BitVec 32 := Scalar.muli v2 c1024_i32
  let v17 : Index := Scalar.indexCast v16
  let c0 : Index := 0#32
  ![v17.toNat, 0]
def k1_off2 (d0 : Dev nD) : Fin 2 → Nat :=
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v27 : BitVec 32 := Scalar.subi c1_i32_14 v2
  let c1024_i32_15 : BitVec 32 := 1024#32
  let v28 : BitVec 32 := Scalar.muli v27 c1024_i32_15
  let v29 : Index := Scalar.indexCast v28
  let c0_16 : Index := 0#32
  ![v29.toNat, 0]
def k1_off3 (d0 : Dev nD) : Fin 2 → Nat :=
  let c0_17 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v32 : BitVec 32 := Scalar.muli v5 c512_i32
  let v33 : Index := Scalar.indexCast v32
  ![0, v33.toNat]
def k1_cond3 (i : grid1.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_23 : BitVec 32 := 0#32
  let v44 : BitVec 1 := Scalar.cmpi .ne v43 c0_i32_23
  v44

def k1_off4 (i : grid1.Coords) : Fin 3 → Nat :=
  let arg0 : BitVec 32 := BitVec.ofNat 32 (i 0).val
  let v57 : Index := Scalar.indexCast arg0
  let c0_31 : Index := 0#32
  let c0_32 : Index := 0#32
  ![v57.toNat, 0, 0]
def k1_off5 (i : grid1.Coords) : Fin 1 → Nat :=
  let arg0 : BitVec 32 := BitVec.ofNat 32 (i 0).val
  ![arg0.toNat]
def k1_off6 (i : grid1.Coords) (d0 : Dev nD) : Fin 2 → Nat :=
  let c0_i32_38 : BitVec 32 := 0#32
  let arg0 : BitVec 32 := BitVec.ofNat 32 (i 0).val
  let c1024_i32_33 : BitVec 32 := 1024#32
  let v61 : BitVec 32 := Scalar.muli arg0 c1024_i32_33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_34 : BitVec 32 := 512#32
  let v62 : BitVec 32 := Scalar.muli v5 c512_i32_34
  let v63 : BitVec 32 := Scalar.addi v61 v62
  ![0, v63.toNat]
def k1_off7 (i : grid1.Coords) : Fin 3 → Nat :=
  let arg0 : BitVec 32 := BitVec.ofNat 32 (i 0).val
  let c0_i32_39 : BitVec 32 := 0#32
  let c0_i32_40 : BitVec 32 := 0#32
  ![arg0.toNat, 0, 0]
def k1_dev3 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v64 : BitVec 32 := Scalar.muli v6 c2_i32_35
  let v65 : BitVec 32 := Scalar.addi c0_i32_36 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v66 : BitVec 32 := Scalar.muli v5 c1_i32_37
  let v67 : BitVec 32 := Scalar.addi v65 v66
  v67.toNat
def k1_cond4 (i : grid1.Coords) : BitVec 1 :=
  let arg1 : BitVec 32 := BitVec.ofNat 32 (i 1).val
  let c1_i32_24 : BitVec 32 := 1#32
  let v45 : BitVec 1 := Scalar.cmpi .eq arg1 c1_i32_24
  let arg0 : BitVec 32 := BitVec.ofNat 32 (i 0).val
  let c2_i32_25 : BitVec 32 := 2#32
  let v46 : BitVec 1 := Scalar.cmpi .sge arg0 c2_i32_25
  let v47 : BitVec 1 := Scalar.andi v45 v46
  let v48 : BitVec 32 := Scalar.extui v47
  let c0_i32_26 : BitVec 32 := 0#32
  let v49 : BitVec 1 := Scalar.cmpi .ne v48 c0_i32_26
  v49

def k1_off8 (i : grid1.Coords) : Fin 1 → Nat :=
  let arg0 : BitVec 32 := BitVec.ofNat 32 (i 0).val
  let c2_i32_29 : BitVec 32 := 2#32
  let v55 : BitVec 32 := Scalar.subi arg0 c2_i32_29
  ![v55.toNat]
def k1_off9 (i : grid1.Coords) (d0 : Dev nD) : Fin 2 → Nat :=
  let c0_i32_35 : BitVec 32 := 0#32
  let arg0 : BitVec 32 := BitVec.ofNat 32 (i 0).val
  let c2_i32_29 : BitVec 32 := 2#32
  let v55 : BitVec 32 := Scalar.subi arg0 c2_i32_29
  let c1024_i32_30 : BitVec 32 := 1024#32
  let v56 : BitVec 32 := Scalar.muli v55 c1024_i32_30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_31 : BitVec 32 := 512#32
  let v57 : BitVec 32 := Scalar.muli v5 c512_i32_31
  let v58 : BitVec 32 := Scalar.addi v56 v57
  ![0, v58.toNat]
def k1_off10 (i : grid1.Coords) : Fin 3 → Nat :=
  let arg0 : BitVec 32 := BitVec.ofNat 32 (i 0).val
  let c2_i32_29 : BitVec 32 := 2#32
  let v55 : BitVec 32 := Scalar.subi arg0 c2_i32_29
  let c0_i32_36 : BitVec 32 := 0#32
  let c0_i32_37 : BitVec 32 := 0#32
  ![v55.toNat, 0, 0]
def k1_dev4 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v74 : BitVec 32 := Scalar.muli v2 c2_i32_42
  let v75 : BitVec 32 := Scalar.addi c0_i32_43 v74
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_44 : BitVec 32 := 1#32
  let v76 : BitVec 32 := Scalar.muli v7 c1_i32_44
  let v77 : BitVec 32 := Scalar.addi v75 v76
  v77.toNat
def k1_cond5 (i : grid1.Coords) : BitVec 1 :=
  let arg1 : BitVec 32 := BitVec.ofNat 32 (i 1).val
  let c3_i32_27 : BitVec 32 := 3#32
  let v50 : BitVec 1 := Scalar.cmpi .eq arg1 c3_i32_27
  let arg0 : BitVec 32 := BitVec.ofNat 32 (i 0).val
  let c7_i32 : BitVec 32 := 7#32
  let v51 : BitVec 1 := Scalar.cmpi .eq arg0 c7_i32
  let v52 : BitVec 1 := Scalar.andi v50 v51
  let v53 : BitVec 32 := Scalar.extui v52
  let c0_i32_28 : BitVec 32 := 0#32
  let v54 : BitVec 1 := Scalar.cmpi .ne v53 c0_i32_28
  v54

def k1_off11 (d0 : Dev nD) (c6144_i32 : BitVec 32) : Fin 2 → Nat :=
  let c0_i32_35 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_29 : BitVec 32 := 512#32
  let v55 : BitVec 32 := Scalar.muli v5 c512_i32_29
  let v56 : BitVec 32 := Scalar.addi c6144_i32 v55
  ![0, v56.toNat]
def k1_dev5 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v70 : BitVec 32 := Scalar.muli v2 c2_i32_44
  let v71 : BitVec 32 := Scalar.addi c0_i32_45 v70
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_46 : BitVec 32 := 1#32
  let v72 : BitVec 32 := Scalar.muli v7 c1_i32_46
  let v73 : BitVec 32 := Scalar.addi v71 v72
  v73.toNat
def k1_dev6 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v95 : BitVec 32 := Scalar.muli v2 c2_i32_65
  let v96 : BitVec 32 := Scalar.addi c0_i32_66 v95
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_67 : BitVec 32 := 1#32
  let v97 : BitVec 32 := Scalar.muli v7 c1_i32_67
  let v98 : BitVec 32 := Scalar.addi v96 v97
  v98.toNat
def k1_off12 (d0 : Dev nD) (c0_i32_212 : BitVec 32) : Fin 2 → Nat :=
  let c0_i32_218 : BitVec 32 := 0#32
  let c1_i32_208 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v225 : BitVec 32 := Scalar.subi c1_i32_208 v5
  let c512_i32_211 : BitVec 32 := 512#32
  let v228 : BitVec 32 := Scalar.muli v225 c512_i32_211
  let v229 : BitVec 32 := Scalar.addi c0_i32_212 v228
  ![0, v229.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x8192, .f32⟩
  | .hbm, ⟨2, _⟩ => ⟨S1x2048x8192, .f32⟩
  | .hbm, ⟨3, _⟩ => ⟨S1x2048x8192, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Mesh.lean ====
/-
  The mesh as the fused kernel addresses it: the two partners of a device, the blocks of the partial-product buffer and
  the slots of the staging buffer that its copies move, the semaphores they count on, and the closed forms of the offsets
  and devices that the kernel computes in 32-bit words.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Memref
public import Idealize.ShloMosaic.Lib.WholeRead

@[expose] public section

noncomputable section

namespace Cert.KernelIdeal.Talk

open Cert.KernelIdeal Cert.KernelIdeal.Gen
open Idealize.ShloMosaic Idealize.ShloMosaic.TcCoe

/-! ## Devices: `c = 2 x + y` -/

/-- The device in the other row of the mesh, same column: the one the first copies go to. -/
def xp (c : Dev nD) : Dev nD := ⟨(c.val + 2) % 4, Nat.mod_lt _ (by decide)⟩
/-- The device in the other column of the mesh, same row: the one the second copies go to. -/
def yp (c : Dev nD) : Dev nD := ⟨c.val / 2 * 2 + (1 - c.val % 2), by have := c.isLt; show _ < 4; have : c.val < 4 := this; omega⟩
/-- A device's row. -/
def hx (c : Dev nD) : Fin 2 := ⟨c.val / 2, by have : c.val < 4 := c.isLt; omega⟩
/-- A device's column. -/
def hy (c : Dev nD) : Fin 2 := ⟨c.val % 2, Nat.mod_lt _ (by decide)⟩
/-- The other of two. -/
def fl (h : Fin 2) : Fin 2 := ⟨1 - h.val, by omega⟩

theorem xp_xp (c : Dev nD) : xp (xp c) = c := by revert c; decide
theorem yp_yp (c : Dev nD) : yp (yp c) = c := by revert c; decide
theorem hy_xp (c : Dev nD) : hy (xp c) = hy c := by revert c; decide
theorem hy_yp (c : Dev nD) : hy (yp c) = fl (hy c) := by revert c; decide
theorem hx_xp (c : Dev nD) : hx (xp c) = fl (hx c) := by revert c; decide
theorem hx_yp (c : Dev nD) : hx (yp c) = hx c := by revert c; decide
theorem fl_fl (h : Fin 2) : fl (fl h) = h := by revert h; decide
theorem fl_ne (h : Fin 2) : fl h ≠ h := by revert h; decide
theorem xp_ne (c : Dev nD) : xp c ≠ c := by revert c; decide
theorem yp_ne (c : Dev nD) : yp c ≠ c := by revert c; decide
theorem xp_ne_yp (c : Dev nD) : xp c ≠ yp c := by revert c; decide

/-- Row partners, as a permutation of the devices. -/
def xpE : Dev nD ≃ Dev nD := ⟨xp, xp, xp_xp, xp_xp⟩
/-- Column partners, as a permutation of the devices. -/
def ypE : Dev nD ≃ Dev nD := ⟨yp, yp, yp_yp, yp_yp⟩

theorem dev1_eq (c : Dev nD) (h : k1_dev1 c < nD) : (⟨k1_dev1 c, h⟩ : Dev nD) = xp c := by revert c; decide
theorem dev2_eq (c : Dev nD) (h : k1_dev2 c < nD) : (⟨k1_dev2 c, h⟩ : Dev nD) = yp c := by revert c; decide
theorem dev3_eq (c : Dev nD) (h : k1_dev3 c < nD) : (⟨k1_dev3 c, h⟩ : Dev nD) = xp c := by revert c; decide
theorem dev4_eq (c : Dev nD) (h : k1_dev4 c < nD) : (⟨k1_dev4 c, h⟩ : Dev nD) = yp c := by revert c; decide
theorem dev5_eq (c : Dev nD) (h : k1_dev5 c < nD) : (⟨k1_dev5 c, h⟩ : Dev nD) = yp c := by revert c; decide
theorem dev6_eq (c : Dev nD) (h : k1_dev6 c < nD) : (⟨k1_dev6 c, h⟩ : Dev nD) = yp c := by revert c; decide

/-! ## Blocks, slots, semaphores -/

theorem po_inb (m : Fin 8) (h : Fin 2) (a : Fin 2) :
    (![0, m.val * 1024 + h.val * 512] : Fin 2 → ℕ) a + S1024x512.size a ≤ S1024x8192.size a := by
  revert m h a; decide
/-- Columns `m·1024 + h·512 …+512`: half `h` of column block `m`. -/
abbrev poRect (m : Fin 8) (h : Fin 2) : Rect S1024x8192 :=
  Rect.unit (s := S1024x8192) ![0, m.val * 1024 + h.val * 512] S1024x512.size (po_inb m h)
theorem st_inb (m : Fin 8) (a : Fin 3) : (![m.val, 0, 0] : Fin 3 → ℕ) a + S1x1024x512.size a ≤ S8x1024x512.size a := by
  revert m a; decide
/-- Slot `m` of the staging buffer. -/
abbrev stRect (m : Fin 8) : Rect S8x1024x512 := Rect.unit (s := S8x1024x512) ![m.val, 0, 0] S1x1024x512.size (st_inb m)
theorem sem_inb (m : Fin 8) (a : Fin 1) : (![m.val] : Fin 1 → ℕ) a + S1.size a ≤ S8.size a := by
  revert m a; decide

/-- Half `h` of column block `m` of the buffer that receives the other row's partial product. -/
abbrev PO (m : Fin 8) (h : Fin 2) : Memref sig .tc .hbm S1024x512 .bf16 :=
  (Memref.whole main_v3_1).slice (poRect m h) (fun _ => rfl)
/-- Slot `m` of the staging buffer as it is sliced. -/
abbrev STG3 (m : Fin 8) : Memref sig .tc .vmem S1x1024x512 .bf16 :=
  (Memref.whole cc1_scratch0).slice (stRect m) (fun _ => rfl)
/-- Slot `m` of the staging buffer as it is sent. -/
abbrev STG (m : Fin 8) : Memref sig .tc .vmem S1024x512 .bf16 := (STG3 m).squeeze S1024x512 squeezes_S1x1024x512_S1024x512

/-- The four kinds of copy semaphore: first copies sent, first copies received, second copies sent, second copies received;
    eight of each. -/
def dsem (a : Fin 4) (m : Fin 8) : DmaSem sig := ⟨10 + a.val * 8 + m.val, by show _ < 48; omega⟩

theorem sem_xs (m : Fin 8) (o : Fin 1 → ℕ) (ho : o = ![m.val]) (h : ∀ a, o a + S1.size a ≤ S8.size a) :
    ((cc1_scratch2.slice (Rect.unit (s := S8) o S1.size h)).squeeze S_ squeezes_S1_S_).sem = dsem 0 m := by
  subst ho; revert m; decide
theorem sem_xr (m : Fin 8) (o : Fin 1 → ℕ) (ho : o = ![m.val]) (h : ∀ a, o a + S1.size a ≤ S8.size a) :
    ((cc1_scratch3.slice (Rect.unit (s := S8) o S1.size h)).squeeze S_ squeezes_S1_S_).sem = dsem 1 m := by
  subst ho; revert m; decide
theorem sem_ys (m : Fin 8) (o : Fin 1 → ℕ) (ho : o = ![m.val]) (h : ∀ a, o a + S1.size a ≤ S8.size a) :
    ((cc1_scratch4.slice (Rect.unit (s := S8) o S1.size h)).squeeze S_ squeezes_S1_S_).sem = dsem 2 m := by
  subst ho; revert m; decide
theorem sem_yr (m : Fin 8) (o : Fin 1 → ℕ) (ho : o = ![m.val]) (h : ∀ a, o a + S1.size a ≤ S8.size a) :
    ((cc1_scratch5.slice (Rect.unit (s := S8) o S1.size h)).squeeze S_ squeezes_S1_S_).sem = dsem 3 m := by
  subst ho; revert m; decide

theorem slice_po (m : Fin 8) (h : Fin 2) (o : Fin 2 → ℕ) (ho : o = ![0, m.val * 1024 + h.val * 512])
    (hb : ∀ a, o a + S1024x512.size a ≤ S1024x8192.size a) :
    (Memref.whole main_v3_1).slice (Rect.unit (s := S1024x8192) o S1024x512.size hb) (fun _ => rfl) = PO m h := by
  subst ho; rfl
theorem slice_st (m : Fin 8) (o : Fin 3 → ℕ) (ho : o = ![m.val, 0, 0])
    (hb : ∀ a, o a + S1x1024x512.size a ≤ S8x1024x512.size a) :
    (Memref.whole cc1_scratch0).slice (Rect.unit (s := S8x1024x512) o S1x1024x512.size hb) (fun _ => rfl) = STG3 m := by
  subst ho; rfl

/-! ## Grid points: `t = 4 n + k` -/

theorem off1_eq (c : Dev nD) : k1_off1 c = ![(hx c).val * 1024, 0] := by revert c; decide
theorem off2_eq (c : Dev nD) : k1_off2 c = ![(fl (hx c)).val * 1024, 0] := by revert c; decide
theorem off3_eq (c : Dev nD) : k1_off3 c = ![0, (hy c).val * 512] := by revert c; decide

/-- The column block of a grid point. -/
def nOf (t : Fin 32) : Fin 8 := ⟨t.val / 4, by omega⟩

theorem cond1_iff (t : Fin 32) : k1_cond1 (grid1.coords t) = 1#1 ↔ t.val = 0 := by revert t; decide
theorem cond2_iff (t : Fin 32) :
    Scalar.cmpi .ne (Scalar.extui (Scalar.cmpi .eq (BitVec.ofNat 32 ((grid1.coords t) 1).val) (0#32 : BitVec 32)) : BitVec 32) 0#32 = 1#1
      ↔ t.val % 4 = 0 := by revert t; decide
theorem cond3_iff (t : Fin 32) : k1_cond3 (grid1.coords t) = 1#1 ↔ t.val % 4 = 3 := by revert t; decide
theorem cond4_iff (t : Fin 32) : k1_cond4 (grid1.coords t) = 1#1 ↔ t.val % 4 = 1 ∧ 8 ≤ t.val := by revert t; decide
theorem cond5_iff (t : Fin 32) : k1_cond5 (grid1.coords t) = 1#1 ↔ t.val = 31 := by revert t; decide

theorem off4_eq (t : Fin 32) : k1_off4 (grid1.coords t) = ![(nOf t).val, 0, 0] := by revert t; decide
theorem off5_eq (t : Fin 32) : k1_off5 (grid1.coords t) = ![(nOf t).val] := by revert t; decide
theorem off6_eq (t : Fin 32) (c : Dev nD) : k1_off6 (grid1.coords t) c = ![0, (nOf t).val * 1024 + (hy c).val * 512] := by
  revert t c; decide
theorem off7_eq (t : Fin 32) : k1_off7 (grid1.coords t) = ![(nOf t).val, 0, 0] := by revert t; decide
/-- The column block whose first copy a point at `k = 1` waits for. -/
def pOf (t : Fin 32) : Fin 8 := ⟨t.val / 4 - 2, by omega⟩
theorem off8_eq (t : Fin 32) (h : 8 ≤ t.val) : k1_off8 (grid1.coords t) = ![(pOf t).val] := by revert t; decide
theorem off9_eq (t : Fin 32) (h : 8 ≤ t.val) (c : Dev nD) :
    k1_off9 (grid1.coords t) c = ![0, (pOf t).val * 1024 + (hy c).val * 512] := by
  revert t c; decide
theorem off10_eq (t : Fin 32) (h : 8 ≤ t.val) : k1_off10 (grid1.coords t) = ![(pOf t).val, 0, 0] := by revert t; decide
theorem off11_eq (m : Fin 8) (c : Dev nD) : k1_off11 c (BitVec.ofNat 32 (m.val * 1024)) = ![0, m.val * 1024 + (hy c).val * 512] := by
  revert m c; decide
theorem off12_eq (m : Fin 8) (c : Dev nD) : k1_off12 c (BitVec.ofNat 32 (m.val * 1024)) = ![0, m.val * 1024 + (fl (hy c)).val * 512] := by
  revert m c; decide

/-! ## One byte count for every copy -/

/-- What one copy adds to a semaphore. -/
abbrev NB : ℕ := (PO 0 0).view.dmaCredit
theorem NB_pos : 0 < NB := View.dmaCredit_pos _ (by decide)
theorem credit_po (m : Fin 8) (h : Fin 2) : (PO m h).view.dmaCredit = NB := rfl
theorem credit_st (m : Fin 8) : (STG m).view.dmaCredit = NB := rfl

end Cert.KernelIdeal.Talk

end
-- ==== Proof.Ideal.Sched.lean ====
/-
  What the fused kernel's devices tell each other: the cells (one barrier and 32 copy semaphores on every device), what each
  payment hands over, and the tables of the one round that runs.
-/
module

public import proofs.«01_k».proof.Proof.Ideal.Mesh
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Rounds.Family
public import Idealize.ShloMosaic.Lib.MemrefSat
public import Idealize.ShloMosaic.Lib.Tactic

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipelines' copy of the rounds library and the talk's own, whose barrier cells have two duties. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR
abbrev 𝒱₀ : Variants := Variants.none

/-! ## Cells -/

/-- The barrier semaphore the kernel signals and waits on. -/
abbrev barS : Sem sig := ((SemArray.scalar (sig.barrier 0 rfl) : Sems sig S_)).sem
/-- Device `c`'s barrier cell. -/
abbrev barC (c : Dev nD) : GSem nD τ sig := ((c : Thread nD τ), .reg barS)
/-- Device `c`'s copy cell of kind `a` for column block `m`. -/
abbrev dC (a : Fin 4) (m : Fin 8) (c : Dev nD) : GSem nD τ sig := ((c : Thread nD τ), .dma (dsem a m))
/-- The fused kernel's own scoped semaphores. -/
abbrev osem1 : Fin 4 × Fin 8 → SemLoc sig := fun k => .dma (dsem k.1 k.2)

/-- The part a semaphore plays in the talk. -/
inductive Kind where
  | bar
  | copy (a : Fin 4) (m : Fin 8)
  | idle

/-- A semaphore's part, read off its place in the pool. -/
def kind : SemLoc sig → Kind
  | .reg s => if s = barS then .bar else .idle
  | .dma s => if h : 10 ≤ s.val ∧ s.val < 42 then .copy ⟨(s.val - 10) / 8, by omega⟩ ⟨(s.val - 10) % 8, by omega⟩ else .idle

theorem kind_bar : kind (.reg barS) = .bar := by unfold kind; exact if_pos rfl
theorem kind_copy (a : Fin 4) (m : Fin 8) : kind (.dma (dsem a m)) = .copy a m := by
  have h : 10 ≤ (dsem a m).val ∧ (dsem a m).val < 42 := by unfold dsem; dsimp only; omega
  have ha : ((dsem a m).val - 10) / 8 = a.val := by unfold dsem; dsimp only; omega
  have hm : ((dsem a m).val - 10) % 8 = m.val := by unfold dsem; dsimp only; omega
  unfold kind; dsimp only; rw [dif_pos h]; simp only [ha, hm]

/-! ## Payments -/

variable (stg : Dev nD → Fin 8 → S1024x512.Idx → Elt F .bf16)

/-- A memref of device `c` at some contents. -/
abbrev ownsAny (c : Dev nD) {sp : Space} {sh : Shape} {e : EltTy} (M : Memref sig .tc sp sh e) : sProp 𝕄 :=
  ownsSat (c : Thread nD τ) M fullShare fun _ => True

/-- What a partner `p` of a device in column `h` grants by its barrier signal: its eight blocks of half `h`, at any contents,
    and that the cells of kind `a` on which it will see them filled are at their first round. -/
def grant (p : Dev nD) (h : Fin 2) (a : Fin 4) : sProp 𝕄 :=
  bigSep Finset.univ fun m : Fin 8 => iprop(ownsAny p (PO m h) ∗ reached ER (dC a m p) 0)

/-- What a payment to device `c`'s barrier cell hands over: from its row partner (`true`) or its column partner (`false`). -/
def barPay (c : Dev nD) : Bool → sProp 𝕄
  | true => grant (xp c) (hy c) 1
  | false => grant (yp c) (hy c) 3

/-- What a copy's completion hands over, by the kind of semaphore that counts it. -/
def copyPay (c : Dev nD) (a : Fin 4) (m : Fin 8) : sProp 𝕄 :=
  match a with
  | 0 => owns (c : Thread nD τ) (STG m) fullShare (stg c m)
  | 1 => owns (c : Thread nD τ) (PO m (hy c)) fullShare (stg (xp c) m)
  | 2 => owns (c : Thread nD τ) (PO m (hy c)) fullShare (stg (xp c) m)
  | 3 => owns (c : Thread nD τ) (PO m (fl (hy c))) fullShare (stg (xp (yp c)) m)

/-- The duties of the one round: two payments to a barrier cell, one to a copy cell. -/
def dutiesOf : Kind → Finset Bool
  | .bar => Finset.univ
  | .copy _ _ => {true}
  | .idle => ∅

/-- The amount of a payment. -/
def amountOf : Kind → ℕ
  | .bar => 1
  | .copy _ _ => NB
  | .idle => 1

/-- What a payment hands over. -/
def payOf (c : Dev nD) (d : Bool) : Kind → sProp 𝕄
  | .bar => barPay c d
  | .copy a m => copyPay stg c a m
  | .idle => iprop(emp)

/-- The schedule of the talk. -/
def Rd : Rounds.Schedule (GSem nD τ sig) Bool 𝕄 where
  duties g r := if r = 0 ∧ g.1.2 = .tc then dutiesOf (kind g.2) else ∅
  unitless _ := False
  amount g _ _ := amountOf (kind g.2)
  payload g _ d := payOf stg g.1.1 d (kind g.2)
  amount_pos g _ _ _ := by
    cases kind g.2
    · exact Nat.one_pos
    · exact NB_pos
    · exact Nat.one_pos

instance Rd_payload_storable (g : GSem nD τ sig) (r : ℕ) (d : Bool) :
    BI.Storable (upEmb : UEmb _ 𝕄) ((Rd stg).payload g r d) := by
  show BI.Storable upEmb (payOf stg g.1.1 d (kind g.2))
  unfold payOf
  split
  · cases d <;> (show BI.Storable upEmb (grant _ _ _); unfold grant; infer_instance)
  · unfold copyPay; split <;> infer_instance
  · infer_instance

section Tables

variable (c : Dev nD) (a : Fin 4) (m : Fin 8)

theorem duties_bar : (Rd stg).duties (barC c) 0 = Finset.univ := by
  dsimp only [Rd]; rw [if_pos ⟨rfl, rfl⟩, kind_bar]; rfl
theorem duties_copy : (Rd stg).duties (dC a m c) 0 = {true} := by
  dsimp only [Rd]; rw [if_pos ⟨rfl, rfl⟩, kind_copy]; rfl
theorem duties_later (g : GSem nD τ sig) : ∀ r, 1 ≤ r → (Rd stg).duties g r = ∅ :=
  fun r hr => by dsimp only [Rd]; rw [if_neg (fun h => by omega)]
theorem amount_bar (d : Bool) : (Rd stg).amount (barC c) 0 d = 1 := by
  dsimp only [Rd]; rw [kind_bar]; rfl
theorem amount_copy (d : Bool) : (Rd stg).amount (dC a m c) 0 d = NB := by
  dsimp only [Rd]; rw [kind_copy]; rfl
theorem payload_bar (d : Bool) : (Rd stg).payload (barC c) 0 d = barPay c d := by
  dsimp only [Rd]; rw [kind_bar]; rfl
theorem payload_copy (d : Bool) : (Rd stg).payload (dC a m c) 0 d = copyPay stg c a m := by
  dsimp only [Rd]; rw [kind_copy]; rfl
theorem expect_bar : (Rd stg).expect (barC c) 0 = 2 := by
  unfold Schedule.expect Schedule.amountOf; rw [duties_bar, Fintype.sum_bool, amount_bar, amount_bar]
theorem expect_copy : (Rd stg).expect (dC a m c) 0 = NB := by
  unfold Schedule.expect Schedule.amountOf; rw [duties_copy, Finset.sum_singleton, amount_copy]
theorem rest_bar : bigSep ((Rd stg).duties (barC c) 0 \ ∅) (fun u => (Rd stg).payload (barC c) 0 u)
    = iprop(grant (xp c) (hy c) 1 ∗ grant (yp c) (hy c) 3) := by
  rw [Finset.sdiff_empty, duties_bar, show (Finset.univ : Finset Bool) = insert true {false} from rfl,
    bigSep_insert (by decide), bigSep_singleton, payload_bar, payload_bar]; rfl
theorem rest_copy : bigSep ((Rd stg).duties (dC a m c) 0 \ ∅) (fun u => (Rd stg).payload (dC a m c) 0 u) = copyPay stg c a m := by
  rw [Finset.sdiff_empty, duties_copy, bigSep_singleton, payload_copy]

end Tables

/-! ## Levels -/

/-- A core's cells are numbered; nothing else is. -/
def L (g : GSem nD τ sig) : Finset Unit := if g.1.2 = .tc then {()} else ∅
/-- The order of the waits: a barrier before every copy, a first copy of block `m` before the later ones, those before every
    second copy. -/
def lvK : Kind → ℕ
  | .bar => 1
  | .copy a m => if a = 1 then 2 + m.val else if a = 3 then 20 else 0
  | .idle => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := by unfold lv; rw [kind_bar]; rfl
theorem lv_xr (m : Fin 8) (c : Dev nD) (u : Unit) : lv (dC 1 m c) u = 2 + m.val := by unfold lv; rw [kind_copy]; rfl
theorem lv_yr (m : Fin 8) (c : Dev nD) (u : Unit) : lv (dC 3 m c) u = 20 := by unfold lv; rw [kind_copy]; rfl

/-! ## What a core owes -/

/-- The first copies of the blocks in `S`, owed to the row partner. -/
def xDue (c : Dev nD) (S : Finset (Fin 8)) : CellTallies nD τ sig Unit := ∑ m ∈ S, tallyAt (dC 1 m (xp c)) () NB
/-- The second copies of the blocks in `S`, owed to the column partner. -/
def yDue (c : Dev nD) (S : Finset (Fin 8)) : CellTallies nD τ sig Unit := ∑ m ∈ S, tallyAt (dC 3 m (yp c)) () NB
/-- The two barrier units. -/
def bDue (c : Dev nD) : CellTallies nD τ sig Unit := tallyAt (barC (xp c)) () 1 + tallyAt (barC (yp c)) () 1
/-- Everything a core owes when the program starts. -/
def O₀ (c : Dev nD) : CellTallies nD τ sig Unit := xDue c Finset.univ + yDue c Finset.univ + bDue c

theorem xDue_pos {c : Dev nD} {S : Finset (Fin 8)} {g : GSem nD τ sig} {u : Unit} (h : 0 < xDue c S g u) :
    ∃ m ∈ S, g = dC 1 m (xp c) := by
  by_contra hn
  refine absurd h (Nat.not_lt.mpr (Nat.le_of_eq ?_))
  unfold xDue
  simp only [Finsupp.coe_finset_sum, Finset.sum_apply]
  refine Finset.sum_eq_zero fun m hm => ?_
  rw [tallyAt_apply, if_neg (fun h' => hn ⟨m, hm, h'.1⟩)]
theorem yDue_pos {c : Dev nD} {S : Finset (Fin 8)} {g : GSem nD τ sig} {u : Unit} (h : 0 < yDue c S g u) :
    ∃ m ∈ S, g = dC 3 m (yp c) := by
  by_contra hn
  refine absurd h (Nat.not_lt.mpr (Nat.le_of_eq ?_))
  unfold yDue
  simp only [Finsupp.coe_finset_sum, Finset.sum_apply]
  refine Finset.sum_eq_zero fun m hm => ?_
  rw [tallyAt_apply, if_neg (fun h' => hn ⟨m, hm, h'.1⟩)]

theorem xDue_insert (c : Dev nD) {S : Finset (Fin 8)} {m : Fin 8} (h : m ∈ S) :
    xDue c S = xDue c (S.erase m) + tallyAt (dC 1 m (xp c)) () NB :=
  (Finset.sum_erase_add S _ h).symm
theorem yDue_insert (c : Dev nD) {S : Finset (Fin 8)} {m : Fin 8} (h : m ∈ S) :
    yDue c S = yDue c (S.erase m) + tallyAt (dC 3 m (yp c)) () NB :=
  (Finset.sum_erase_add S _ h).symm
theorem xDue_empty (c : Dev nD) : xDue c ∅ = 0 := Finset.sum_empty
theorem yDue_empty (c : Dev nD) : yDue c ∅ = 0 := Finset.sum_empty

/-- A wait on a cell of level at most `b` while the only dues are copies of level above `b`. -/
theorem mayWait_due (c : Dev nD) (sm : SemLoc sig) (b : ℕ) (hsm : lv ((c : Thread nD τ), sm) () ≤ b)
    (Sx Sy : Finset (Fin 8)) (hx : ∀ m ∈ Sx, b < 2 + m.val) (hy' : b < 20) :
    (levAts L lv : sProp 𝕄) ⊢ MayWait (c : Thread nD τ) sm () (xDue c Sx + yDue c Sy) := by
  have key : ∀ g u, 0 < (xDue c Sx + yDue c Sy) g u → u ∈ L g ∧ b < lv g u := by
    intro g u hg
    simp only [Pi.add_apply, Finsupp.add_apply] at hg
    rcases (by omega : 0 < xDue c Sx g u ∨ 0 < yDue c Sy g u) with h | h
    · obtain ⟨m, hm, rfl⟩ := xDue_pos h
      exact ⟨by rw [L_tc]; exact Finset.mem_singleton_self _, by rw [lv_xr]; exact hx m hm⟩
    · obtain ⟨m, hm, rfl⟩ := yDue_pos h
      exact ⟨by rw [L_tc]; exact Finset.mem_singleton_self _, by rw [lv_yr]; exact hy'⟩
  exact MayOwe.of_cut (L := L) (lev := lv) b
    (fun p hp => by rw [Finset.mem_singleton.mp hp, L_tc]; exact Finset.mem_singleton_self _)
    (fun g u hg => (key g u hg).1)
    (fun p hp => by rw [Finset.mem_singleton.mp hp]; exact hsm)
    (fun g u hg => (key g u hg).2)

end Cert.KernelIdeal.Talk

end
-- ==== Proof.Ideal.Vals.lean ====
/-
  What the fused kernel computes point by point: the output block it accumulates, the block it accumulates for the other
  row of the mesh, and the slots it sends.
-/
module

public import proofs.«01_k».proof.Proof.Ideal.Mesh

@[expose] public section

noncomputable section

namespace Cert.KernelIdeal.Talk

open Cert.KernelIdeal Cert.KernelIdeal.Gen
open Idealize.ShloMosaic Idealize.ShloMosaic.TcCoe

variable {F : FTy → Type} [FloatOps F]

/-- A slot-shaped block without its unit axis. -/
def unsq {α : Type} (w : S1x1024x512.Idx → α) : S1024x512.Idx → α :=
  fun x => w (Shape.reshapeEquiv squeezes_S1x1024x512_S1024x512.numel_eq x)

/-! A device's blocks of its two operands, point by point. -/
variable (XA : Dev nD → ℕ → S2048x1024.Idx → Elt F .f32) (XB : Dev nD → ℕ → S1024x1024.Idx → Elt F .f32)

/-- The rows of the first operand's block that device `c` itself needs. -/
def ownRows (c : Dev nD) (X : S2048x1024.Idx → Elt F .f32) : S1024x1024.Idx → Elt F .f32 :=
  fun x => X ((Rect.unit (s := S2048x1024) (k1_off1 c) S1024x1024.size (k1_off1_inb c)).toLoadRect.idx x)
/-- The rows its row partner needs. -/
def otherRows (c : Dev nD) (X : S2048x1024.Idx → Elt F .f32) : S1024x1024.Idx → Elt F .f32 :=
  fun x => X ((Rect.unit (s := S2048x1024) (k1_off2 c) S1024x1024.size (k1_off2_inb c)).toLoadRect.idx x)
/-- The half of the second operand's columns device `c` sends its row partner the product with. -/
def halfCols (c : Dev nD) (X : S1024x1024.Idx → Elt F .f32) : S1024x512.Idx → Elt F .f32 :=
  fun x => X ((Rect.unit (s := S1024x1024) (k1_off3 c) S1024x512.size (k1_off3_inb c)).toLoadRect.idx x)

/-- The output block after a point, from what it was before the point's product is added. -/
def stepP (c : Dev nD) (t : ℕ) (z : S1024x1024.Idx → Elt F .f32) : S1024x1024.Idx → Elt F .f32 :=
  k1_pay5 (ownRows c (XA c t)) z (XB c t)
/-- The block for the row partner after a point, likewise. -/
def stepA (c : Dev nD) (t : ℕ) (z : S1024x512.Idx → Elt F .f32) : S1024x512.Idx → Elt F .f32 :=
  k1_pay1 (otherRows c (XA c t)) (halfCols c (XB c t)) z

/-- The output block after point `t`: started over at every fourth point. -/
def pAt (c : Dev nD) : ℕ → S1024x1024.Idx → Elt F .f32
  | 0 => stepP XA XB c 0 (k1_pay3 (F := F))
  | t + 1 => stepP XA XB c (t + 1) (if (t + 1) % 4 = 0 then k1_pay3 (F := F) else pAt c t)
/-- The block for the row partner after point `t`: started over at every fourth point. -/
def aAt (c : Dev nD) : ℕ → S1024x512.Idx → Elt F .f32
  | 0 => stepA XA XB c 0 (k1_pay4 (F := F))
  | t + 1 => stepA XA XB c (t + 1) (if (t + 1) % 4 = 0 then k1_pay4 (F := F) else aAt c t)

theorem pAt_start (c : Dev nD) {t : ℕ} (h : t % 4 = 0) : pAt XA XB c t = stepP XA XB c t (k1_pay3 (F := F)) := by
  cases t with
  | zero => rfl
  | succ t => rw [pAt, if_pos h]
theorem pAt_next (c : Dev nD) {t : ℕ} (h : t % 4 ≠ 0) : pAt XA XB c t = stepP XA XB c t (pAt XA XB c (t - 1)) := by
  cases t with
  | zero => exact absurd rfl h
  | succ t => rw [pAt, if_neg h]; rfl
theorem aAt_start (c : Dev nD) {t : ℕ} (h : t % 4 = 0) : aAt XA XB c t = stepA XA XB c t (k1_pay4 (F := F)) := by
  cases t with
  | zero => rfl
  | succ t => rw [aAt, if_pos h]
theorem aAt_next (c : Dev nD) {t : ℕ} (h : t % 4 ≠ 0) : aAt XA XB c t = stepA XA XB c t (aAt XA XB c (t - 1)) := by
  cases t with
  | zero => exact absurd rfl h
  | succ t => rw [aAt, if_neg h]; rfl

/-- What device `c` sends its row partner for column block `m`: the accumulated block, rounded. -/
def stg (c : Dev nD) (m : Fin 8) : S1024x512.Idx → Elt F .bf16 := unsq (k1_pay2 (aAt XA XB c (4 * m.val + 3)))

end Cert.KernelIdeal.Talk

end
-- ==== Proof.Ideal.Steps.lean ====
/-
  One operation at a time: what each memory operation, copy and wait of the fused kernel does to the resources a device
  holds, stated over symbolic memrefs and semaphores.
-/
module

public import proofs.«01_k».proof.Proof.Ideal.Sched
public import proofs.«01_k».proof.Proof.Ideal.Vals

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads and stores of a memref owned at named contents -/

/-- A load returns the owned contents at the rectangle's indices. -/
theorem wp_load_owns (c : Dev nD) {cs : CoreSpace} {s : Shape} {e : EltTy} {α : Type} {M : Memref sig .tc cs s e} {r : LoadRect s} {hl : M.view.LoadsAt r}
    {k : (r.shape.Idx → Elt F e) → Prog (TpuEff nD τ sig (Elt F) Λ₀ .tc) α} {X : s.Idx → Elt F e} {Q : α → sProp 𝕄} :
    (owns (c : Thread nD τ) M fullShare X : sProp 𝕄)
      ⊢ iprop((owns (c : Thread nD τ) M fullShare X -∗ wp frame (wpE (defs₀ (F := F)) 𝒱₀ (c : Thread nD τ) none) Set.univ (k fun x => X (r.idx x)) Q)
          -∗ wp frame (wpE (defs₀ (F := F)) 𝒱₀ (c : Thread nD τ) none) Set.univ (.op (.load M r hl) k) Q) := by
  unfold owns
  iintro ⟨%f, %hf, H⟩ Hk
  iapply (wp_load 𝒱₀ (c : Thread nD τ) none Set.univ (m := M) (View.setOn_subset_set _ _)) $$ H
  iintro H
  have hv : M.view.readAt (Elt F) r f = fun x => X (r.idx x) := by
    funext x; rw [View.readAt_apply, hf]
  rw [hv]
  iapply Hk
  iexists f
  isplitr; · ipureintro; exact hf
  iexact H

/-- A store through a rectangle, whatever it leaves read as `Y`, leaves the memref owned at `Y`. -/
theorem wp_store_owns' (c : Dev nD) {cs : CoreSpace} {s : Shape} {e : EltTy} {α : Type} {M : Memref sig .tc cs s e} {r : Rect s}
    {w : r.shape.Idx → Elt F e} {hx : (M.access r).Stores Finset.univ} {hm : Finset.univ = Finset.univ ∨ ∀ a, r.stride a = 1}
    {k : PUnit → Prog (TpuEff nD τ sig (Elt F) Λ₀ .tc) α} {X Y : s.Idx → Elt F e} {Q : α → sProp 𝕄}
    (hY : ∀ f, M.view.read (Elt F) ((M.access r).write (Elt F) f w Finset.univ) = Y) :
    (owns (c : Thread nD τ) M fullShare X : sProp 𝕄)
      ⊢ iprop((owns (c : Thread nD τ) M fullShare Y -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (w := w) (Mk := Finset.univ) (hx := hx) (hm := hm)
    (k := k) (f := f) (Q := Q) (S := M.view.set) (((M.access r).setOn_subset_set _).trans (M.view.set_slice_subset r))) $$ [H]
  · iexact H
  iintro H
  iapply Hk
  iexists _
  isplitr; rotate_left
  · iexact H
  · ipureintro; exact hY f

/-- What a view reads after a store of its whole extent is what was stored. -/
theorem read_write_full {sp : Space} {s : Shape} {e : EltTy} (v : View sig .tc sp s e)
    {o : Fin s.rank → ℕ} (ho : o = fun _ => 0) (hb : ∀ a, o a + s.size a ≤ s.size a)
    (w : (Rect.unit (s := s) o s.size hb).shape.Idx → Elt F e) (f : v.ty.Contents (Elt F)) :
    v.read (Elt F) ((v.slice (Rect.unit (s := s) o s.size hb)).write (Elt F) f w Finset.univ) = w := by
  subst ho
  funext x
  have h := congrFun ((v.slice (Rect.unit (s := s) (fun _ => 0) s.size hb)).read_write_univ (Val := Elt F) f w) x
  have hx : (Rect.unit (s := s) (fun _ => 0) s.size hb).emb x = x := by
    funext a; apply Fin.ext; rw [Rect.emb_apply]; simp [Rect.unit]
  rw [← h]
  show v.read (Elt F) _ x = v.read (Elt F) _ ((Rect.unit (s := s) (fun _ => 0) s.size hb).emb x)
  rw [hx]

/-- A load of a memref's whole extent returns the owned contents. -/
theorem wp_load_full (c : Dev nD) {cs : CoreSpace} {s : Shape} {e : EltTy} {α : Type} {M : Memref sig .tc cs s e}
    {o : Fin s.rank → ℕ} (ho : o = fun _ => 0) {hb : ∀ a, o a + s.size a ≤ s.size a} {hl : M.view.LoadsAt (Rect.unit (s := s) o s.size hb).toLoadRect}
    {k : (s.Idx → Elt F e) → Prog (TpuEff nD τ sig (Elt F) Λ₀ .tc) α} {X : s.Idx → Elt F e} {Q : α → sProp 𝕄} :
    (owns (c : Thread nD τ) M fullShare X : sProp 𝕄)
      ⊢ iprop((owns (c : Thread nD τ) M fullShare X -∗ wp frame (wpE (defs₀ (F := F)) 𝒱₀ (c : Thread nD τ) none) Set.univ (k X) Q)
          -∗ wp frame (wpE (defs₀ (F := F)) 𝒱₀ (c : Thread nD τ) none) Set.univ (.op (.load M (Rect.unit (s := s) o s.size hb).toLoadRect hl) k) Q) := by
  have h := wp_load_owns (F := F) c (M := M) (r := (Rect.unit (s := s) o s.size hb).toLoadRect) (hl := hl) (k := k) (X := X) (Q := Q)
  have hx : (fun x => X ((Rect.unit (s := s) o s.size hb).toLoadRect.idx x)) = X := by
    subst ho
    funext x
    refine congrArg X ?_
    show (Rect.unit (s := s) (fun _ => 0) s.size hb).emb x = x
    funext a; apply Fin.ext; rw [Rect.emb_apply]; simp [Rect.unit]
  rw [hx] at h
  exact h

/-- A store of a memref's whole extent leaves it owned at what was stored. -/
theorem wp_store_full (c : Dev nD) {cs : CoreSpace} {s : Shape} {e : EltTy} {α : Type} {M : Memref sig .tc cs s e}
    {o : Fin s.rank → ℕ} (ho : o = fun _ => 0) {hb : ∀ a, o a + s.size a ≤ s.size a} {w : s.Idx → Elt F e}
    {hx : (M.access (Rect.unit (s := s) o s.size hb)).Stores Finset.univ} {hm : Finset.univ = Finset.univ ∨ ∀ a, (Rect.unit (s := s) o s.size hb).stride a = 1}
    {k : PUnit → Prog (TpuEff nD τ sig (Elt F) Λ₀ .tc) α} {X : s.Idx → Elt F e} {Q : α → sProp 𝕄} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := s) o s.size hb) w Finset.univ hx hm) k) Q) :=
  wp_store_owns' c (fun f => read_write_full M.view ho hb w f)

/-! ## A staging slot -/

/-- A slot owned, seen through the rectangle it is sliced by. -/
theorem owns_stg (c : Dev nD) (m : Fin 8) (X : S1024x512.Idx → Elt F .bf16) :
    (owns (c : Thread nD τ) (STG m) fullShare X : sProp 𝕄)
      = iprop(∃ f, ⌜(STG m).view.read (Elt F) f = X⌝ ∗ (STG3 m).view.loc (c : Thread nD τ) ↦[(STG3 m).view.set]{fullShare} f) := by
  unfold owns
  rw [show (STG m).view.set = (STG3 m).view.set from View.set_reshape _ _]

/-- The same at any contents. -/
theorem ownsAny_stg (c : Dev nD) (m : Fin 8) :
    (ownsAny c (STG m) : sProp 𝕄) = iprop(∃ f, ⌜True⌝ ∗ (STG3 m).view.loc (c : Thread nD τ) ↦[(STG3 m).view.set]{fullShare} f) := by
  unfold ownsAny ownsSat
  rw [show (STG m).view.set = (STG3 m).view.set from View.set_reshape _ _]

/-- A load through slot `m` leaves it as it was, whatever it returns. -/
theorem wp_load_slot (c : Dev nD) {α : Type} (m : Fin 8) {o : Fin 3 → ℕ} (ho : o = ![m.val, 0, 0])
    {hb : ∀ a, o a + S1x1024x512.size a ≤ S8x1024x512.size a}
    {hl : (Memref.whole cc1_scratch0 : Memref sig .tc .vmem S8x1024x512 .bf16).view.LoadsAt (Rect.unit (s := S8x1024x512) o S1x1024x512.size hb).toLoadRect}
    {k : (S1x1024x512.Idx → Elt F .bf16) → Prog (TpuEff nD τ sig (Elt F) Λ₀ .tc) α} {Q : α → sProp 𝕄} :
    (ownsAny c (STG m) : sProp 𝕄)
      ⊢ iprop((∀ v, ownsAny c (STG m) -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc1_scratch0) (Rect.unit (s := S8x1024x512) o S1x1024x512.size hb).toLoadRect hl) k) Q) := by
  subst ho
  rw [ownsAny_stg]
  iintro ⟨%f, -, H⟩ Hk
  iapply (wp_load_rect 𝒱₀ (c : Thread nD τ) none Set.univ (m := Memref.whole cc1_scratch0)
    (r := Rect.unit (s := S8x1024x512) ![m.val, 0, 0] S1x1024x512.size hb) (S := (STG3 m).view.set) (f := f) (q := fullShare) subset_rfl) $$ [H]
  · iexact H
  iintro H
  iapply Hk
  iexists f
  isplitr; · ipureintro; trivial
  iexact H

/-- A store through slot `m` leaves the slot at what was stored. -/
theorem wp_store_slot (c : Dev nD) {α : Type} (m : Fin 8) {o : Fin 3 → ℕ} (ho : o = ![m.val, 0, 0])
    {hb : ∀ a, o a + S1x1024x512.size a ≤ S8x1024x512.size a} {w : S1x1024x512.Idx → Elt F .bf16}
    {hx : ((Memref.whole cc1_scratch0 : Memref sig .tc .vmem S8x1024x512 .bf16).access (Rect.unit (s := S8x1024x512) o S1x1024x512.size hb)).Stores Finset.univ}
    {hm : Finset.univ = Finset.univ ∨ ∀ a, (Rect.unit (s := S8x1024x512) o S1x1024x512.size hb).stride a = 1}
    {k : PUnit → Prog (TpuEff nD τ sig (Elt F) Λ₀ .tc) α} {Q : α → sProp 𝕄} :
    (ownsAny c (STG m) : sProp 𝕄)
      ⊢ iprop((owns (c : Thread nD τ) (STG m) fullShare (unsq w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc1_scratch0) (Rect.unit (s := S8x1024x512) o S1x1024x512.size hb) w Finset.univ hx hm) k) Q) := by
  subst ho
  rw [ownsAny_stg, owns_stg]
  iintro ⟨%f, -, H⟩ Hk
  iapply (wp_store 𝒱₀ (c : Thread nD τ) none Set.univ (m := Memref.whole cc1_scratch0) (w := w) (Mk := Finset.univ) (hx := hx) (hm := hm)
    (r := Rect.unit (s := S8x1024x512) ![m.val, 0, 0] S1x1024x512.size hb) (k := k) (f := f) (Q := Q) (S := (STG3 m).view.set) (((STG3 m).view.setOn_subset_set _))) $$ [H]
  · iexact H
  iintro H
  iapply Hk
  iexists _
  isplitr; rotate_left
  · iexact H
  · ipureintro
    funext x
    exact congrFun ((STG3 m).view.read_write_univ (Val := Elt F) f w) (Shape.reshapeEquiv squeezes_S1x1024x512_S1024x512.numel_eq x)

/-! ## Copies and waits -/

variable (stg : Dev nD → Fin 8 → S1024x512.Idx → Elt F .bf16)

/-- What a core owes, whatever its waits have recorded. -/
abbrev owesE (c : Dev nD) (O : CellTallies nD τ sig Unit) : sProp 𝕄 := iprop(∃ W, owes (c : Thread nD τ) O W)

/-- A copy from device `c` to device `p`, counted on `c`'s cell of kind `a` and on `p`'s cell of kind `b`: the source's contents
    land, and the sender is left with the right to wait for its source. -/
theorem wp_copy (c p : Dev nD) (a b : Fin 4) (m : Fin 8) {α : Type} {sp sp' : Space}
    {src : Memref sig .tc sp S1024x512 .bf16} {dst : Memref sig .tc sp' S1024x512 .bf16} {sS sR : DmaSem sig}
    (hS : sS = dsem a m) (hR : sR = dsem b m) (X : S1024x512.Idx → Elt F .bf16)
    (hN : dst.view.dmaCredit = NB)
    (hpay₁ : owns (c : Thread nD τ) src fullShare X = copyPay stg c a m) (hpay₂ : owns (p : Thread nD τ) dst fullShare X = copyPay stg p b m)
    {n : Dev nD} (hn : n = p) {hsc : dst.view.ref.isScScratch = false} {hsrc : src.view.WordExact} {hdst : dst.view.WordExact}
    {hsem : DmaTarget.Typed sp (.dma sR : SemLoc sig) (.remote (Dev.tc n : Thread nD τ) dst (.dma sS) hsc)}
    {k : PUnit → Prog (TpuEff nD τ sig (Elt F) Λ₀ .tc) α} {Q : α → sProp 𝕄} (O : CellTallies nD τ sig Unit) (κ₁ κ₂ : ℕ) :
    iprop(cellInv ER (Rd stg) κ₁ (dC a m c) ∗ cellInv ER (Rd stg) κ₂ (dC b m p)
        ∗ owns (c : Thread nD τ) src fullShare X ∗ ownsAny p dst ∗ owesE c (O + tallyAt (dC b m p) () NB)
        ∗ dutyTok ER (dC a m c) 0 true ∗ reached ER (dC a m c) 0 ∗ dutyTok ER (dC b m p) 0 true ∗ reached ER (dC b m p) 0)
      ⊢ iprop(((cred (tallyAt (dC a m c) () NB) ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR
  unfold owns ownsAny ownsSat owesE
  iintro ⟨HI1, HI2, ⟨%fs, %hfs, Hs⟩, ⟨%fd, -, Hd⟩, ⟨%W, HO⟩, Ht1, Hr1, Ht2, Hr2⟩ Hk
  iapply (Rounds.wp_send_pointsTo 𝒱₀ ER (Rd stg) (c : Thread nD τ) none (c' := (n : Thread nD τ)) (src := src) (dst := dst)
      (sS := .dma (dsem a m)) (sem := .dma (dsem b m)) (q := fullShare) (fs := fs) (κ₁ := κ₁) (κ₂ := κ₂)
      (r₁ := 0) (r₂ := 0) (d₁ := true) (d₂ := true) (fd := fd)
      (by rw [duties_copy]; exact Finset.mem_singleton_self _) (by rw [duties_copy]; exact Finset.mem_singleton_self _)
      () () NB hN (amount_copy stg c a m true) (amount_copy stg n b m true) O rfl (W := W)
      (by rw [payload_copy, ← hpay₁, ← hfs]; exact owns_intro _ _ _ _)
      (by
        rw [payload_copy, ← hpay₂, ← hfs]
        exact (owns_intro (n : Thread nD τ) dst fullShare _).trans (Entails.of_eq (by rw [View.read_write_univ])))) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- A wait for one copy on device `c`'s cell of kind `a`: what its completion hands over. -/
theorem wp_wait (c : Dev nD) (a : Fin 4) (m : Fin 8) {α : Type} {sp sp' : Space} {s' : Shape} {e' : EltTy}
    {src : Memref sig .tc sp s' e'} {dst : Memref sig .tc sp' S1024x512 .bf16} {sS : DmaSem sig}
    (hS : sS = dsem a m) (hN : dst.view.dmaCredit = NB) {hsrc : src.view.WordExact} {hdst : dst.view.WordExact}
    {k : PUnit → Prog (TpuEff nD τ sig (Elt F) Λ₀ .tc) α} {Q : α → sProp 𝕄} (O : CellTallies nD τ sig Unit) (κ : ℕ) :
    iprop(cellInv ER (Rd stg) κ (dC a m c) ∗ cred (tallyAt (dC a m c) () NB) ∗ owesE c O
        ∗ MayWait (c : Thread nD τ) (.dma (dsem a m)) () O ∗ atPos ER (dC a m c) 0 ∅ 0)
      ⊢ iprop(((owesE c O ∗ atPos ER (dC a m c) 1 ∅ 0 ∗ copyPay stg c a m)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hS
  unfold owesE
  iintro ⟨HI, Hc, ⟨%W, HO⟩, Hm, Hat⟩ Hk
  iapply (Rounds.wp_wait_rest_token 𝒱₀ ER (Rd stg) (c : Thread nD τ) none (κ := κ) (sm := .dma (dsem a m)) (k' := NB)
      (fun K => (wpE_waitDma2_eq (src := src) (dst := dst) 𝒱₀ (c : Thread nD τ) none Set.univ K).trans (by rw [hN])) (Set.mem_univ _) () (O := O) (W := W) (R := 0) (m := 0) (T := ∅)
      ((Nat.zero_add _).trans (expect_copy stg c a m).symm)) $$ [HI Hc HO Hm Hat]
  · isplitl [HI]; · iexact HI
    isplitl [Hc]; · iexact Hc
    isplitl [HO]; · iexact HO
    isplitl [Hm]; · iexact Hm
    iexact Hat
  iintro ⟨HO, Hat, -, Hpay⟩
  ihave Hp := (Entails.of_eq (rest_copy stg c a m)) $$ Hpay
  iapply Hk
  isplitl [HO]; · iexists _; iexact HO
  isplitl [Hat]; · iexact Hat
  iexact Hp

end Cert.KernelIdeal.Talk

end
-- ==== Proof.Ideal.State.lean ====
/-
  The resources a device holds between the grid points of the fused kernel: which first and second copies it has still to
  send, and what its last point has still to wait for.
-/
module

public import proofs.«01_k».proof.Proof.Ideal.Steps

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (stg : Dev nD → Fin 8 → S1024x512.Idx → Elt F .bf16)

/-! ## What holds throughout -/

/-- The invariants of every cell, the first rounds of the barrier cells and the order of the waits. -/
def invs (κ : GSem nD τ sig → ℕ) : sProp 𝕄 :=
  iprop((bigSep Finset.univ fun c : Dev nD => cellInv ER (Rd stg) (κ (barC c)) (barC c))
    ∗ (bigSep Finset.univ fun k : Dev nD × (Fin 4 × Fin 8) => cellInv ER (Rd stg) (κ (dC k.2.1 k.2.2 k.1)) (dC k.2.1 k.2.2 k.1))
    ∗ (bigSep Finset.univ fun c : Dev nD => reached ER (barC c) 0)
    ∗ levAts L lv)

/-- With device `c`'s own copy cells at their first round. -/
def known (κ : GSem nD τ sig → ℕ) (c : Dev nD) : sProp 𝕄 :=
  iprop(invs stg κ ∗ bigSep Finset.univ fun k : Fin 4 × Fin 8 => reached ER (dC k.1 k.2 c) 0)

instance invs_persistent (κ : GSem nD τ sig → ℕ) : BI.Persistent (invs stg κ) := by unfold invs; infer_instance
instance known_persistent (κ : GSem nD τ sig → ℕ) (c : Dev nD) : BI.Persistent (known stg κ c) := by unfold known; infer_instance

section Extract

variable (κ : GSem nD τ sig → ℕ) (c c' : Dev nD) (a : Fin 4) (m : Fin 8)

theorem known_inv_bar : known stg κ c ⊢ cellInv ER (Rd stg) (κ (barC c')) (barC c') := by
  refine BIBase.Entails.trans ?_ (bigSep_elim (Φ := fun c : Dev nD => cellInv ER (Rd stg) (κ (barC c)) (barC c)) (Finset.mem_univ c'))
  unfold known invs; iintro ⟨⟨H, -⟩, -⟩; iexact H
theorem inv_copy : invs stg κ ⊢ cellInv ER (Rd stg) (κ (dC a m c')) (dC a m c') := by
  refine BIBase.Entails.trans ?_ (bigSep_elim (Φ := fun k : Dev nD × (Fin 4 × Fin 8) => cellInv ER (Rd stg) (κ (dC k.2.1 k.2.2 k.1)) (dC k.2.1 k.2.2 k.1)) (Finset.mem_univ (c', a, m)))
  unfold invs; iintro ⟨-, H, -⟩; iexact H
theorem known_inv_copy : known stg κ c ⊢ cellInv ER (Rd stg) (κ (dC a m c')) (dC a m c') := by
  refine BIBase.Entails.trans ?_ (inv_copy stg κ c' a m)
  unfold known; iintro ⟨H, -⟩; iexact H
theorem known_bar : known stg κ c ⊢ reached ER (barC c') 0 := by
  refine BIBase.Entails.trans ?_ (bigSep_elim (Φ := fun c : Dev nD => (reached ER (barC c) 0 : sProp 𝕄)) (Finset.mem_univ c'))
  unfold known invs; iintro ⟨⟨-, -, H, -⟩, -⟩; iexact H
theorem known_lev : known stg κ c ⊢ (levAts L lv : sProp 𝕄) := by
  unfold known invs; iintro ⟨⟨-, -, -, H⟩, -⟩; iexact H
theorem known_copy : known stg κ c ⊢ reached ER (dC a m c) 0 := by
  refine BIBase.Entails.trans ?_ (bigSep_elim (Φ := fun k : Fin 4 × Fin 8 => (reached ER (dC k.1 k.2 c) 0 : sProp 𝕄)) (Finset.mem_univ (a, m)))
  unfold known; iintro ⟨-, H⟩; iexact H

end Extract

/-! ## A block's two copies, before and after -/

/-- What the first copy of block `m` is sent with. -/
def xs0 (c : Dev nD) (m : Fin 8) : sProp 𝕄 :=
  iprop((dutyTok ER (dC 0 m c) 0 true ∗ dutyTok ER (dC 1 m (xp c)) 0 true ∗ ownsAny c (STG m))
    ∗ ownsAny (xp c) (PO m (hy c)) ∗ reached ER (dC 1 m (xp c)) 0)
/-- What it leaves. -/
def xs1 (c : Dev nD) (m : Fin 8) : sProp 𝕄 := cred (tallyAt (dC 0 m c) () NB)
/-- What the second copy of block `m` is awaited and sent with. -/
def ys0 (c : Dev nD) (m : Fin 8) : sProp 𝕄 :=
  iprop((cred (tallyAt (dC 1 m c) () NB) ∗ atPos ER (dC 1 m c) 0 ∅ 0 ∗ dutyTok ER (dC 2 m c) 0 true ∗ dutyTok ER (dC 3 m (yp c)) 0 true)
    ∗ ownsAny (yp c) (PO m (hy c)) ∗ reached ER (dC 3 m (yp c)) 0)
/-- What it leaves. -/
def ys1 (c : Dev nD) (m : Fin 8) : sProp 𝕄 := iprop(atPos ER (dC 1 m c) 1 ∅ 0 ∗ cred (tallyAt (dC 2 m c) () NB))
/-- What the last point waits for block `m` with, from the start. -/
def zs (c : Dev nD) (m : Fin 8) : sProp 𝕄 :=
  iprop(atPos ER (dC 0 m c) 0 ∅ 0 ∗ atPos ER (dC 2 m c) 0 ∅ 0 ∗ atPos ER (dC 3 m c) 0 ∅ 0 ∗ cred (tallyAt (dC 3 m c) () NB))

/-- Between the grid points: the first copies of `Sx` and the second copies of `Sy` are still to be sent. -/
def mid (c : Dev nD) (Sx Sy : Finset (Fin 8)) : sProp 𝕄 :=
  iprop(bigSep Sx (xs0 c) ∗ bigSep (Finset.univ \ Sx) (xs1 c) ∗ bigSep Sy (ys0 c) ∗ bigSep (Finset.univ \ Sy) (ys1 c)
    ∗ bigSep Finset.univ (zs c) ∗ atPos ER (barC c) 1 ∅ 0)

/-- Before the first grid point: nothing granted, the own receive buffer at any contents. -/
def start (c : Dev nD) : sProp 𝕄 :=
  iprop((dutyTok ER (barC (xp c)) 0 true ∗ dutyTok ER (barC (yp c)) 0 false ∗ atPos ER (barC c) 0 ∅ 0 ∗ cred (tallyAt (barC c) () 2))
    ∗ (bigSep Finset.univ fun m : Fin 8 => ownsAny c (PO m (hy c))) ∗ (bigSep Finset.univ fun m : Fin 8 => ownsAny c (PO m (fl (hy c))))
    ∗ (bigSep Finset.univ fun m : Fin 8 => iprop(dutyTok ER (dC 0 m c) 0 true ∗ dutyTok ER (dC 1 m (xp c)) 0 true ∗ ownsAny c (STG m)))
    ∗ (bigSep Finset.univ fun m : Fin 8 => iprop(cred (tallyAt (dC 1 m c) () NB) ∗ atPos ER (dC 1 m c) 0 ∅ 0 ∗ dutyTok ER (dC 2 m c) 0 true ∗ dutyTok ER (dC 3 m (yp c)) 0 true))
    ∗ bigSep Finset.univ (zs c))

/-- After the last grid point: the copy cells' counters at zero, the barrier cell past its round, the staging slots and the
    receive buffer's blocks at what was sent. -/
def fin' (c : Dev nD) : sProp 𝕄 :=
  iprop((bigSep Finset.univ fun k : Fin 4 × Fin 8 => semVal (dC k.1 k.2 c) 0) ∗ atPos ER (barC c) 1 ∅ 0
    ∗ (bigSep Finset.univ fun m => copyPay stg c 0 m) ∗ (bigSep Finset.univ fun m => copyPay stg c 2 m) ∗ bigSep Finset.univ fun m => copyPay stg c 3 m)

/-! ## Moving one block from "to be sent" to "sent" -/

theorem bigSep_take {I : Type} [DecidableEq I] {S : Finset I} {i : I} (h : i ∈ S) (Φ : I → sProp 𝕄) :
    bigSep S Φ = iprop(Φ i ∗ bigSep (S.erase i) Φ) := bigSep_erase h
theorem bigSep_put {I : Type} [DecidableEq I] {S : Finset I} {i : I} (h : i ∉ S) (Φ : I → sProp 𝕄) :
    bigSep (insert i S) Φ = iprop(Φ i ∗ bigSep S Φ) := bigSep_insert h

theorem bigSep_move {I : Type} [Fintype I] [DecidableEq I] {S : Finset I} {i : I} (h : i ∈ S) (Φ Ψ : I → sProp 𝕄) :
    iprop(bigSep (S.erase i) Φ ∗ bigSep (Finset.univ \ S) Ψ ∗ Ψ i)
      ⊢ iprop(bigSep (S.erase i) Φ ∗ bigSep (Finset.univ \ S.erase i) Ψ) := by
  have e : Finset.univ \ S.erase i = insert i (Finset.univ \ S) := by
    ext j; by_cases hj : j = i <;> simp [hj, h]
  rw [e, bigSep_put (by simp [h])]
  iintro ⟨H1, H2, H3⟩
  isplitl [H1]; · iexact H1
  isplitl [H3]; · iexact H3
  iexact H2

/-! ## The waits of the last point -/

/-- A copy of kind `a` still to be waited for. -/
def wt (c : Dev nD) (a : Fin 4) (m : Fin 8) : sProp 𝕄 := iprop(atPos ER (dC a m c) 0 ∅ 0 ∗ cred (tallyAt (dC a m c) () NB))
/-- A copy of kind `a` waited for. -/
def wd (c : Dev nD) (a : Fin 4) (m : Fin 8) : sProp 𝕄 := iprop(atPos ER (dC a m c) 1 ∅ 0 ∗ copyPay stg c a m)
/-- The copies of kind `a`, those of `T` still to be waited for. -/
def pool (c : Dev nD) (a : Fin 4) (T : Finset (Fin 8)) : sProp 𝕄 := iprop(bigSep T (wt c a) ∗ bigSep (Finset.univ \ T) (wd stg c a))

/-- One wait of the last point, with nothing owed: one copy moves from those to be waited for to those waited for. -/
theorem step_wait (κ : GSem nD τ sig → ℕ) (c : Dev nD) (a : Fin 4) (m : Fin 8) {T : Finset (Fin 8)} (hm : m ∈ T) {α : Type} {sp sp' : Space} {s' : Shape} {e' : EltTy}
    {src : Memref sig .tc sp s' e'} {dst : Memref sig .tc sp' S1024x512 .bf16} {sS : DmaSem sig}
    (hS : sS = dsem a m) (hN : dst.view.dmaCredit = NB) {hsrc : src.view.WordExact} {hdst : dst.view.WordExact}
    {k : PUnit → Prog (TpuEff nD τ sig (Elt F) Λ₀ .tc) α} {Q : α → sProp 𝕄} {R : sProp 𝕄}
    (hk : iprop(known stg κ c ∗ owesE c 0 ∗ pool stg c a (T.erase m) ∗ R)
      ⊢ wp frame (wpE (defs₀ (F := F)) 𝒱₀ (c : Thread nD τ) none) Set.univ (k ⟨⟩) Q) :
    iprop(known stg κ c ∗ owesE c 0 ∗ pool stg c a T ∗ R)
      ⊢ wp frame (wpE (defs₀ (F := F)) 𝒱₀ (c : Thread nD τ) none) Set.univ (.op (.waitDma2 sS src dst hsrc hdst) k) Q := by
  unfold pool at hk ⊢
  rw [bigSep_take hm]
  unfold wt
  iintro ⟨#HK, HO, ⟨⟨⟨Hat, Hc⟩, HT⟩, HD⟩, HR⟩
  iapply (wp_wait stg c a m hS hN (hsrc := hsrc) (hdst := hdst) 0 (κ (dC a m c))) $$ [Hat Hc HO]
  · isplitr; · iapply (known_inv_copy stg κ c c a m); iexact HK
    isplitl [Hc]; · iexact Hc
    isplitl [HO]; · iexact HO
    isplitr; · rw [MayWait_zero]; iempintro
    iexact Hat
  iintro ⟨HO, Hat, Hp⟩
  iapply hk
  isplitr; · iexact HK
  isplitl [HO]; · iexact HO
  isplitr [HR]
  · iapply (bigSep_move hm)
    isplitl [HT]; · iexact HT
    isplitl [HD]; · iexact HD
    unfold wd
    isplitl [Hat]; · iexact Hat
    iexact Hp
  iexact HR

/-! ## The barrier -/

/-- The two signals and the wait of the first point: every device has granted its receive buffer's blocks. -/
theorem step_bar (κ : GSem nD τ sig → ℕ) (c : Dev nD) {α : Type} {n₁ n₂ : Dev nD} (h₁ : n₁ = xp c) (h₂ : n₂ = yp c) {a₁ a₂ a₃ : ℤ}
    (ha₁ : a₁ = 1) (ha₂ : a₂ = 1) (ha₃ : a₃ = 2)
    {k : PUnit → Prog (TpuEff nD τ sig (Elt F) Λ₀ .tc) α} {Q : α → sProp 𝕄} {R : sProp 𝕄}
    (hk : iprop(known stg κ c ∗ owesE c (xDue c Finset.univ + yDue c Finset.univ) ∗ mid c Finset.univ Finset.univ ∗ R)
      ⊢ wp frame (wpE (defs₀ (F := F)) 𝒱₀ (c : Thread nD τ) none) Set.univ (k ⟨⟩) Q) :
    iprop(known stg κ c ∗ owesE c (O₀ c) ∗ start c ∗ R)
      ⊢ wp frame (wpE (defs₀ (F := F)) 𝒱₀ (c : Thread nD τ) none) Set.univ
          (.op (.semSignal ((n₁, .tc) : Thread nD τ) barS a₁) fun _ => .op (.semSignal ((n₂, .tc) : Thread nD τ) barS a₂) fun _ =>
            .op (.semWait barS a₃) k) Q := by
  subst h₁ h₂ ha₁ ha₂ ha₃
  unfold start owesE
  iintro ⟨#HK, ⟨%W, HO⟩, ⟨⟨Ht1, Ht2, Hat, Hc⟩, HPx, HPy, HX, HY, HZ⟩, HR⟩
  iapply (Rounds.wp_signal 𝒱₀ ER (Rd stg) (c : Thread nD τ) none (dst := (xp c : Thread nD τ)) (sem := barS) (r := 0) (d := true) (κ := κ (barC (xp c)))
      (by rw [duties_bar]; exact Finset.mem_univ _) ((amount_bar stg (xp c) true).trans (by decide)) ()
      (xDue c Finset.univ + yDue c Finset.univ + tallyAt (barC (yp c)) () 1)
      (by show O₀ c = _; unfold O₀ bDue; rw [add_comm (tallyAt (barC (xp c)) () 1), ← add_assoc])) $$ [HO Ht1 HPx]
  · isplitr; · iapply (known_inv_bar stg κ c (xp c)); iexact HK
    isplitl [HO]; · iexact HO
    isplitl [Ht1]; · iexact Ht1
    isplitl [HPx]
    · rw [payload_bar]; unfold barPay; dsimp only; unfold grant; rw [xp_xp, hy_xp, bigSep_sep']
      isplitl [HPx]; · iexact HPx
      iapply (bigSep_intro_persistent (S := Finset.univ) (fun m _ => known_copy stg κ c 1 m)); iexact HK
    iapply (known_bar stg κ c (xp c)); iexact HK
  iintro HO
  iapply (Rounds.wp_signal 𝒱₀ ER (Rd stg) (c : Thread nD τ) none (dst := (yp c : Thread nD τ)) (sem := barS) (r := 0) (d := false) (κ := κ (barC (yp c)))
      (by rw [duties_bar]; exact Finset.mem_univ _) ((amount_bar stg (yp c) false).trans (by decide)) ()
      (xDue c Finset.univ + yDue c Finset.univ) rfl) $$ [HO Ht2 HPy]
  · isplitr; · iapply (known_inv_bar stg κ c (yp c)); iexact HK
    isplitl [HO]; · iexact HO
    isplitl [Ht2]; · iexact Ht2
    isplitl [HPy]
    · rw [payload_bar]; unfold barPay; dsimp only; unfold grant; rw [yp_yp, hy_yp, bigSep_sep']
      isplitl [HPy]; · iexact HPy
      iapply (bigSep_intro_persistent (S := Finset.univ) (fun m _ => known_copy stg κ c 3 m)); iexact HK
    iapply (known_bar stg κ c (yp c)); iexact HK
  iintro HO
  iapply (Rounds.wp_wait_rest_token 𝒱₀ ER (Rd stg) (c : Thread nD τ) none (κ := κ (barC c))
      (wpE_semWait_eq 𝒱₀ (c : Thread nD τ) none Set.univ) (Set.mem_univ _) () (O := xDue c Finset.univ + yDue c Finset.univ) (W := W) (R := 0) (m := 0) (T := ∅)
      ((Nat.zero_add 2).trans (expect_bar stg c).symm)) $$ [Hc HO Hat]
  · isplitr; · iapply (known_inv_bar stg κ c c); iexact HK
    isplitl [Hc]; · iexact Hc
    isplitl [HO]; · iexact HO
    isplitr
    · iapply (mayWait_due c (.reg barS) 1 (le_of_eq (lv_bar c ())) Finset.univ Finset.univ (fun m _ => by omega) (by omega))
      iapply (known_lev stg κ c); iexact HK
    iexact Hat
  iintro ⟨HO, Hat, -, Hpay⟩
  ihave Hp := (Entails.of_eq (rest_bar stg c)) $$ Hpay
  icases Hp with ⟨HGx, HGy⟩
  iapply hk
  isplitr; · iexact HK
  isplitl [HO]; · unfold owesE; iexists _; iexact HO
  isplitr [HR]
  · unfold mid xs0 ys0 grant
    rw [Finset.sdiff_self, bigSep_empty, bigSep_empty]
    isplitl [HX HGx]
    · rw [bigSep_sep' (Finset.univ : Finset (Fin 8)) (fun m => iprop(dutyTok ER (dC 0 m c) 0 true ∗ dutyTok ER (dC 1 m (xp c)) 0 true ∗ ownsAny c (STG m)))]
      isplitl [HX]; · iexact HX
      iexact HGx
    isplitr; · iempintro
    isplitl [HY HGy]
    · rw [bigSep_sep' (Finset.univ : Finset (Fin 8)) (fun m => iprop(cred (tallyAt (dC 1 m c) () NB) ∗ atPos ER (dC 1 m c) 0 ∅ 0 ∗ dutyTok ER (dC 2 m c) 0 true ∗ dutyTok ER (dC 3 m (yp c)) 0 true))]
      isplitl [HY]; · iexact HY
      iexact HGy
    isplitr; · iempintro
    isplitl [HZ]; · iexact HZ
    iexact Hat
  iexact HR

/-! ## A first copy, and a second -/

/-- The first copy of block `m`, its slot at what is sent. -/
theorem step_x (κ : GSem nD τ sig → ℕ) (c : Dev nD) (m : Fin 8) {Sx Sy : Finset (Fin 8)} (hm : m ∈ Sx) {α : Type}
    {src : Memref sig .tc .vmem S1024x512 .bf16} {dst : Memref sig .tc .hbm S1024x512 .bf16} {sS sR : DmaSem sig}
    (hsrc' : src = STG m) (hdst' : dst = PO m (hy c)) (hS : sS = dsem 0 m) (hR : sR = dsem 1 m) {n : Dev nD} (hn : n = xp c)
    {hsc : dst.view.ref.isScScratch = false} {hsrc : src.view.WordExact} {hdst : dst.view.WordExact}
    {hsem : DmaTarget.Typed .vmem (.dma sR : SemLoc sig) (.remote (Dev.tc n : Thread nD τ) dst (.dma sS) hsc)}
    {k : PUnit → Prog (TpuEff nD τ sig (Elt F) Λ₀ .tc) α} {Q : α → sProp 𝕄} {R : sProp 𝕄}
    (hk : iprop(known stg κ c ∗ owesE c (xDue c (Sx.erase m) + yDue c Sy) ∗ mid c (Sx.erase m) Sy ∗ R)
      ⊢ wp frame (wpE (defs₀ (F := F)) 𝒱₀ (c : Thread nD τ) none) Set.univ (k ⟨⟩) Q) :
    iprop(known stg κ c ∗ owesE c (xDue c Sx + yDue c Sy) ∗ (bigSep (Sx.erase m) (xs0 c) ∗ bigSep (Finset.univ \ Sx) (xs1 c) ∗ bigSep Sy (ys0 c) ∗ bigSep (Finset.univ \ Sy) (ys1 c)
        ∗ bigSep Finset.univ (zs c) ∗ atPos ER (barC c) 1 ∅ 0)
        ∗ (dutyTok ER (dC 0 m c) 0 true ∗ dutyTok ER (dC 1 m (xp c)) 0 true ∗ owns (c : Thread nD τ) (STG m) fullShare (stg c m))
        ∗ (ownsAny (xp c) (PO m (hy c)) ∗ reached ER (dC 1 m (xp c)) 0) ∗ R)
      ⊢ wp frame (wpE (defs₀ (F := F)) 𝒱₀ (c : Thread nD τ) none) Set.univ
          (.op (.enqueueDma src (.remote (Dev.tc n : Thread nD τ) dst (.dma sS) hsc) (.dma sR) hsrc hdst hsem) k) Q := by
  subst hsrc' hdst'
  iintro ⟨#HK, HO, ⟨HX, HX1, HY, HY1, HZ, Hb⟩, ⟨Ht1, Ht2, Hs⟩, ⟨Hd, #Hr⟩, HR⟩
  iapply (wp_copy stg c (xp c) 0 1 m hS hR (stg c m) (credit_po m (hy c)) rfl (by unfold copyPay; rw [hy_xp, xp_xp]) hn
    (xDue c (Sx.erase m) + yDue c Sy) (κ (dC 0 m c)) (κ (dC 1 m (xp c)))) $$ [HO Ht1 Ht2 Hs Hd]
  · isplitr; · iapply (known_inv_copy stg κ c c 0 m); iexact HK
    isplitr; · iapply (known_inv_copy stg κ c (xp c) 1 m); iexact HK
    isplitl [Hs]; · iexact Hs
    isplitl [Hd]; · iexact Hd
    isplitl [HO]
    · rw [xDue_insert c hm, add_right_comm]; iexact HO
    isplitl [Ht1]; · iexact Ht1
    isplitr; · iapply (known_copy stg κ c 0 m); iexact HK
    isplitl [Ht2]; · iexact Ht2
    iexact Hr
  iintro ⟨Hc, HO⟩
  iapply hk
  isplitr; · iexact HK
  isplitl [HO]; · iexact HO
  isplitr [HR]
  · unfold mid
    ihave H := (bigSep_move hm (xs0 c) (xs1 c)) $$ [HX HX1 Hc]
    · isplitl [HX]; · iexact HX
      isplitl [HX1]; · iexact HX1
      unfold xs1; iexact Hc
    icases H with ⟨HX, HX1⟩
    isplitl [HX]; · iexact HX
    isplitl [HX1]; · iexact HX1
    isplitl [HY]; · iexact HY
    isplitl [HY1]; · iexact HY1
    isplitl [HZ]; · iexact HZ
    iexact Hb
  iexact HR

/-- The wait for the first copy of block `m` and the second copy, which sends it on. -/
theorem step_y (κ : GSem nD τ sig → ℕ) (c : Dev nD) (m : Fin 8) {Sx Sy : Finset (Fin 8)} (hm : m ∈ Sy) (hx : ∀ j ∈ Sx, m.val < j.val) {α : Type}
    {sp' : Space} {s' : Shape} {e' : EltTy} {wsrc : Memref sig .tc sp' s' e'} {wdst src dst : Memref sig .tc .hbm S1024x512 .bf16} {sW sS sR : DmaSem sig}
    (hN : wdst.view.dmaCredit = NB) (hsrc' : src = PO m (hy c)) (hdst' : dst = PO m (hy c))
    (hW : sW = dsem 1 m) (hS : sS = dsem 2 m) (hR : sR = dsem 3 m) {n : Dev nD} (hn : n = yp c)
    {hws : wsrc.view.WordExact} {hwd : wdst.view.WordExact}
    {hsc : dst.view.ref.isScScratch = false} {hsrc : src.view.WordExact} {hdst : dst.view.WordExact}
    {hsem : DmaTarget.Typed .hbm (.dma sR : SemLoc sig) (.remote (Dev.tc n : Thread nD τ) dst (.dma sS) hsc)}
    {k : PUnit → Prog (TpuEff nD τ sig (Elt F) Λ₀ .tc) α} {Q : α → sProp 𝕄} {R : sProp 𝕄}
    (hk : iprop(known stg κ c ∗ owesE c (xDue c Sx + yDue c (Sy.erase m)) ∗ mid c Sx (Sy.erase m) ∗ R)
      ⊢ wp frame (wpE (defs₀ (F := F)) 𝒱₀ (c : Thread nD τ) none) Set.univ (k ⟨⟩) Q) :
    iprop(known stg κ c ∗ owesE c (xDue c Sx + yDue c Sy) ∗ mid c Sx Sy ∗ R)
      ⊢ wp frame (wpE (defs₀ (F := F)) 𝒱₀ (c : Thread nD τ) none) Set.univ
          (.op (.waitDma2 sW wsrc wdst hws hwd) fun _ =>
            .op (.enqueueDma src (.remote (Dev.tc n : Thread nD τ) dst (.dma sS) hsc) (.dma sR) hsrc hdst hsem) k) Q := by
  subst hsrc' hdst'
  unfold mid at hk ⊢
  rw [bigSep_take hm]
  iintro ⟨#HK, HO, ⟨HX, HX1, ⟨Hy, HY⟩, HY1, HZ, Hb⟩, HR⟩
  unfold ys0
  icases Hy with ⟨⟨Hc, Hat, Ht1, Ht2⟩, Hd, #Hr⟩
  iapply (wp_wait stg c 1 m hW hN (hsrc := hws) (hdst := hwd) (xDue c Sx + yDue c Sy) (κ (dC 1 m c))) $$ [Hat Hc HO]
  · isplitr; · iapply (known_inv_copy stg κ c c 1 m); iexact HK
    isplitl [Hc]; · iexact Hc
    isplitl [HO]; · iexact HO
    isplitr
    · iapply (mayWait_due c (.dma (dsem 1 m)) (2 + m.val) (le_of_eq (lv_xr m c ())) Sx Sy (fun j hj => by have := hx j hj; omega) (by omega))
      iapply (known_lev stg κ c); iexact HK
    iexact Hat
  iintro ⟨HO, Hat, Hp⟩
  iapply (wp_copy stg c (yp c) 2 3 m hS hR (stg (xp c) m) (credit_po m (hy c)) rfl (by unfold copyPay; rw [hy_yp, fl_fl, yp_yp]) hn
    (xDue c Sx + yDue c (Sy.erase m)) (κ (dC 2 m c)) (κ (dC 3 m (yp c)))) $$ [HO Ht1 Ht2 Hp Hd]
  · isplitr; · iapply (known_inv_copy stg κ c c 2 m); iexact HK
    isplitr; · iapply (known_inv_copy stg κ c (yp c) 3 m); iexact HK
    isplitl [Hp]; · unfold copyPay; iexact Hp
    isplitl [Hd]; · iexact Hd
    isplitl [HO]
    · rw [yDue_insert c hm, ← add_assoc]; iexact HO
    isplitl [Ht1]; · iexact Ht1
    isplitr; · iapply (known_copy stg κ c 2 m); iexact HK
    isplitl [Ht2]; · iexact Ht2
    iexact Hr
  iintro ⟨Hc, HO⟩
  iapply hk
  isplitr; · iexact HK
  isplitl [HO]; · iexact HO
  isplitr [HR]
  · ihave H := (bigSep_move hm (ys0 c) (ys1 c)) $$ [HY HY1 Hc Hat]
    · isplitl [HY]; · iexact HY
      isplitl [HY1]; · iexact HY1
      unfold ys1
      isplitl [Hat]; · iexact Hat
      iexact Hc
    icases H with ⟨HY, HY1⟩
    isplitl [HX]; · iexact HX
    isplitl [HX1]; · iexact HX1
    isplitl [HY]; · iexact HY
    isplitl [HY1]; · iexact HY1
    isplitl [HZ]; · iexact HZ
    iexact Hb
  iexact HR

end Cert.KernelIdeal.Talk

end
-- ==== Proof.Ideal.Body.lean ====
/-
  The fused kernel's body at any grid point, on any device.
-/
module

public import proofs.«01_k».proof.Proof.Ideal.State

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sequencing -/

/-- A program's run, then the rest's. -/
theorem run_then (c : Dev nD) {α : Type} {p : Prog (TpuEff nD τ sig (Elt F) Λ₀ .tc) PUnit} {k : PUnit → Prog (TpuEff nD τ sig (Elt F) Λ₀ .tc) α}
    {pre post : sProp 𝕄} {Q : α → sProp 𝕄}
    (h₁ : pre ⊢ wp frame (wpE (defs₀ (F := F)) 𝒱₀ (c : Thread nD τ) none) Set.univ p (fun _ => post))
    (h₂ : post ⊢ wp frame (wpE (defs₀ (F := F)) 𝒱₀ (c : Thread nD τ) none) Set.univ (k ⟨⟩) Q) :
    pre ⊢ wp frame (wpE (defs₀ (F := F)) 𝒱₀ (c : Thread nD τ) none) Set.univ (p >>= k) Q := by
  rw [wp_bind]
  exact h₁.trans (wp_mono _ _ _ fun _ => h₂)

/-- A conditional, by its two sides. -/
theorem run_dite (c : Dev nD) {α : Type} {P : Prop} [Decidable P] {A : P → Prog (TpuEff nD τ sig (Elt F) Λ₀ .tc) α}
    {B : ¬P → Prog (TpuEff nD τ sig (Elt F) Λ₀ .tc) α} {pre : sProp 𝕄} {Q : α → sProp 𝕄}
    (hA : ∀ h, pre ⊢ wp frame (wpE (defs₀ (F := F)) 𝒱₀ (c : Thread nD τ) none) Set.univ (A h) Q)
    (hB : ∀ h, pre ⊢ wp frame (wpE (defs₀ (F := F)) 𝒱₀ (c : Thread nD τ) none) Set.univ (B h) Q) :
    pre ⊢ wp frame (wpE (defs₀ (F := F)) 𝒱₀ (c : Thread nD τ) none) Set.univ (dite P A B) Q := by
  by_cases h : P
  · rw [dif_pos h]; exact hA h
  · rw [dif_neg h]; exact hB h

/-- Nothing to run. -/
theorem run_ret (c : Dev nD) {α : Type} {a : α} {Q : α → sProp 𝕄} :
    Q a ⊢ wp frame (wpE (defs₀ (F := F)) 𝒱₀ (c : Thread nD τ) none) Set.univ (.ret a) Q := by
  rw [wp_ret]; iintro H; imodintro; iexact H

/-! ## Which copies are still to be sent before a point -/

/-- The point that sends the second copy of block `m`. -/
def sendAt (m : Fin 8) : ℕ := if m.val < 6 then 4 * m.val + 9 else 31
/-- First copies still to be sent before point `t`. -/
def sx (t : ℕ) : Finset (Fin 8) := Finset.univ.filter fun m => t ≤ 4 * m.val + 3
/-- Second copies still to be sent before point `t`. -/
def sy (t : ℕ) : Finset (Fin 8) := Finset.univ.filter fun m => t ≤ sendAt m

theorem sx_zero : sx 0 = Finset.univ := by decide
theorem sy_zero : sy 0 = Finset.univ := by decide
theorem sx_step (t : Fin 32) (h : t.val % 4 = 3) : nOf t ∈ sx t.val ∧ sx (t.val + 1) = (sx t.val).erase (nOf t) := by
  revert t; decide
theorem sx_keep (t : Fin 32) (h : t.val % 4 ≠ 3) : sx (t.val + 1) = sx t.val := by revert t; decide
theorem sy_step (t : Fin 32) (h : t.val % 4 = 1 ∧ 8 ≤ t.val) :
    pOf t ∈ sy t.val ∧ sy (t.val + 1) = (sy t.val).erase (pOf t) ∧ ∀ j ∈ sx (t.val + 1), (pOf t).val < j.val := by revert t; decide
theorem sy_keep (t : Fin 32) (h : ¬(t.val % 4 = 1 ∧ 8 ≤ t.val)) (h' : t.val ≠ 31) : sy (t.val + 1) = sy t.val := by revert t; decide
theorem sx_last : sx (31 + 1) = ∅ := by decide
theorem sy_last : sy 31 = {6, 7} := by decide

variable (XA : Dev nD → ℕ → S2048x1024.Idx → Elt F .f32) (XB : Dev nD → ℕ → S1024x1024.Idx → Elt F .f32)

/-- What a device owes before point `t`. -/
def due (c : Dev nD) (t : ℕ) : CellTallies nD τ sig Unit :=
  if t = 0 then O₀ c else if t < 32 then xDue c (sx t) + yDue c (sy t) else 0
/-- What it holds of the copies and their cells before point `t`. -/
def core (c : Dev nD) (t : ℕ) : sProp 𝕄 :=
  if t = 0 then start c else if t < 32 then mid c (sx t) (sy t) else fin' (stg XA XB) c

theorem due_mid (c : Dev nD) {t : ℕ} (h0 : t ≠ 0) (h : t < 32) : due c t = xDue c (sx t) + yDue c (sy t) := by
  unfold due; rw [if_neg h0, if_pos h]
theorem core_mid (c : Dev nD) {t : ℕ} (h0 : t ≠ 0) (h : t < 32) : core XA XB c t = mid c (sx t) (sy t) := by
  unfold core; rw [if_neg h0, if_pos h]

/-- A conditional whose two sides run on into the same rest. -/
theorem run_join (c : Dev nD) {α : Type} {P : Prop} [Decidable P] {A : P → Prog (TpuEff nD τ sig (Elt F) Λ₀ .tc) α}
    {r : Prog (TpuEff nD τ sig (Elt F) Λ₀ .tc) α} {pre Q' : sProp 𝕄} {Q : α → sProp 𝕄}
    (hr : Q' ⊢ wp frame (wpE (defs₀ (F := F)) 𝒱₀ (c : Thread nD τ) none) Set.univ r Q)
    (hB : ¬P → pre ⊢ Q')
    (hA : ∀ h, (Q' ⊢ wp frame (wpE (defs₀ (F := F)) 𝒱₀ (c : Thread nD τ) none) Set.univ r Q) →
      pre ⊢ wp frame (wpE (defs₀ (F := F)) 𝒱₀ (c : Thread nD τ) none) Set.univ (A h) Q) :
    pre ⊢ wp frame (wpE (defs₀ (F := F)) 𝒱₀ (c : Thread nD τ) none) Set.univ (dite P A (fun _ => r)) Q :=
  run_dite c (fun h => hA h hr) (fun h => (hB h).trans hr)

set_option maxHeartbeats 800000 in
/-- The first part of a point: the barrier at the first point, the blocks started over at every fourth, the product added to
    the output block. -/
theorem part10_run (κ : GSem nD τ sig → ℕ) (c : Dev nD) (t : Fin 32)
    {M2 : Memref sig .tc .vmem S2048x1024 .f32} {h2 : M2.IsWhole} {M3 M4 : Memref sig .tc .vmem S1024x1024 .f32} {h3 : M3.IsWhole} {h4 : M4.IsWhole}
    {M5 : Memref sig .tc .hbm S1024x8192 .bf16} {h5 : M5.IsWhole} {M6 : Memref sig .tc .vmem S8x1024x512 .bf16} {h6 : M6.IsWhole}
    {M7 : Memref sig .tc .vmem S1024x512 .f32} {h7 : M7.IsWhole} {p₀ : S1024x1024.Idx → Elt F .f32} {a₀ : S1024x512.Idx → Elt F .f32}
    (hp : t.val % 4 ≠ 0 → p₀ = pAt XA XB c (t.val - 1)) :
    iprop(known (stg XA XB) κ c ∗ owesE c (due c t.val) ∗ core XA XB c t.val
        ∗ owns (c : Thread nD τ) M2 fullShare (XA c t.val) ∗ owns (c : Thread nD τ) M3 fullShare (XB c t.val)
        ∗ owns (c : Thread nD τ) M4 fullShare p₀ ∗ owns (c : Thread nD τ) M7 fullShare a₀)
      ⊢ wp frame (wpE (defs₀ (F := F)) 𝒱₀ (c : Thread nD τ) none) Set.univ
          (k1_part10 (grid1.coords t) M2 h2 M3 h3 M4 h4 M5 h5 M6 h6 M7 h7
            cc1_scratch2 cc1_scratch3 cc1_scratch4 cc1_scratch5)
          (fun x => iprop(⌜x.2.2.1 = c ∧ x.2.2.2.2.2.2.2 = otherRows c (XA c t.val)⌝
            ∗ known (stg XA XB) κ c ∗ owesE c (xDue c (sx t.val) + yDue c (sy t.val)) ∗ mid c (sx t.val) (sy t.val)
            ∗ owns (c : Thread nD τ) M2 fullShare (XA c t.val) ∗ owns (c : Thread nD τ) M3 fullShare (XB c t.val)
            ∗ owns (c : Thread nD τ) M4 fullShare (pAt XA XB c t.val)
            ∗ owns (c : Thread nD τ) M7 fullShare (if t.val % 4 = 0 then k1_pay4 (F := F) else a₀))) := by
  have e1 : (![0, 0] : Fin S1024x512.rank → ℕ) = fun _ => 0 := by decide
  have e2 : (![0, 0] : Fin S1024x1024.rank → ℕ) = fun _ => 0 := by decide
  simp only [k1_part10_eq_skeleton]; unfold k1_part10_skel
  simp only [semSignalWord, semWaitWord, Prog.lift, Prog.bind_op, Prog.bind_ret, Prog.pure_eq_ret, wp_deviceId]
  refine run_join c (Q' := iprop(known (stg XA XB) κ c ∗ owesE c (xDue c (sx t.val) + yDue c (sy t.val)) ∗ mid c (sx t.val) (sy t.val)
    ∗ owns (c : Thread nD τ) M2 fullShare (XA c t.val) ∗ owns (c : Thread nD τ) M3 fullShare (XB c t.val)
        ∗ owns (c : Thread nD τ) M4 fullShare p₀ ∗ owns (c : Thread nD τ) M7 fullShare a₀)) ?_ ?_ ?_
  rotate_left
  · intro h
    have h0 : t.val ≠ 0 := fun h' => h ((cond1_iff t).mpr h')
    rw [due_mid c h0 t.isLt, core_mid XA XB c h0 t.isLt]
  · intro h hr
    have h0 : t.val = 0 := (cond1_iff t).mp h
    rw [h0, sx_zero, sy_zero] at hr
    rw [h0]
    unfold due core
    rw [if_pos rfl, if_pos rfl]
    exact step_bar (stg XA XB) κ c (dev1_eq c _) (dev2_eq c _) (by decide) (by decide) (by decide) hr
  refine run_join c (Q' := iprop(known (stg XA XB) κ c ∗ owesE c (xDue c (sx t.val) + yDue c (sy t.val)) ∗ mid c (sx t.val) (sy t.val)
    ∗ owns (c : Thread nD τ) M2 fullShare (XA c t.val) ∗ owns (c : Thread nD τ) M3 fullShare (XB c t.val)
        ∗ owns (c : Thread nD τ) M4 fullShare (if t.val % 4 = 0 then k1_pay3 (F := F) else p₀)
        ∗ owns (c : Thread nD τ) M7 fullShare (if t.val % 4 = 0 then k1_pay4 (F := F) else a₀))) ?_ ?_ ?_
  rotate_left
  · intro h
    have h0 : t.val % 4 ≠ 0 := fun h' => h ((cond2_iff t).mpr h')
    rw [if_neg h0, if_neg h0]
  · intro h hr
    have h0 : t.val % 4 = 0 := (cond2_iff t).mp h
    iintro ⟨HK, HO, HM, H2, H3, H4, HA⟩
    iapply (wp_load_full (F := F) c (M := M4) (o := ![0, 0]) (hb := inb_S1024x1024_S1024x1024_0_0) (X := p₀) e2) $$ H4; iintro H4
    iapply (wp_store_full (F := F) c (M := M4) (o := ![0, 0]) (hb := inb_S1024x1024_S1024x1024_0_0) (X := p₀) (w := k1_pay3 (F := F)) e2) $$ H4; iintro H4
    iapply (wp_load_full (F := F) c (M := M7) (o := ![0, 0]) (hb := inb_S1024x512_S1024x512_0_0) (X := a₀) e1) $$ HA; iintro HA
    iapply (wp_store_full (F := F) c (M := M7) (o := ![0, 0]) (hb := inb_S1024x512_S1024x512_0_0) (X := a₀) (w := k1_pay4 (F := F)) e1) $$ HA; iintro HA
    iapply hr
    isplitl [HK]; · iexact HK
    isplitl [HO]; · iexact HO
    isplitl [HM]; · iexact HM
    isplitl [H2]; · iexact H2
    isplitl [H3]; · iexact H3
    rw [if_pos h0, if_pos h0]
    isplitl [H4]; · iexact H4
    iexact HA
  generalize hp' : (if t.val % 4 = 0 then k1_pay3 (F := F) else p₀) = p₁
  generalize (if t.val % 4 = 0 then k1_pay4 (F := F) else a₀) = a₁
  have hP : k1_pay5 (ownRows c (XA c t.val)) p₁ (XB c t.val) = pAt XA XB c t.val := by
    rw [← hp']
    by_cases h0 : t.val % 4 = 0
    · rw [if_pos h0, pAt_start XA XB c h0]; rfl
    · rw [if_neg h0, pAt_next XA XB c h0, hp h0]; rfl
  iintro ⟨HK, HO, HM, H2, H3, H4, HA⟩
  iapply (wp_load_owns (F := F) c (M := M2) (X := XA c t.val)) $$ H2; iintro H2
  iapply (wp_load_full (F := F) c (M := M4) (o := ![0, 0]) (hb := inb_S1024x1024_S1024x1024_0_0) (X := p₁) e2) $$ H4; iintro H4
  iapply (wp_load_full (F := F) c (M := M3) (o := ![0, 0]) (hb := inb_S1024x1024_S1024x1024_0_0) (X := XB c t.val) e2) $$ H3; iintro H3
  iapply (wp_load_full (F := F) c (M := M4) (o := ![0, 0]) (hb := inb_S1024x1024_S1024x1024_0_0) (X := p₁) e2) $$ H4; iintro H4
  iapply (wp_store_full (F := F) c (M := M4) (o := ![0, 0]) (hb := inb_S1024x1024_S1024x1024_0_0) (X := p₁)
    (w := k1_pay5 (ownRows c (XA c t.val)) p₁ (XB c t.val)) e2) $$ H4; iintro H4
  iapply (wp_load_owns (F := F) c (M := M2) (X := XA c t.val)) $$ H2; iintro H2
  iapply (run_ret c)
  isplitr
  · ipureintro; exact ⟨rfl, rfl⟩
  isplitl [HK]; · iexact HK
  isplitl [HO]; · iexact HO
  isplitl [HM]; · iexact HM
  isplitl [H2]; · iexact H2
  isplitl [H3]; · iexact H3
  isplitl [H4]
  · rw [← hP]; iexact H4
  iexact HA

end Cert.KernelIdeal.Talk

end
-- ==== Proof.Ideal.Point.lean ====
/-
  The fused kernel's body at any grid point, on any device, whole.
-/
module

public import proofs.«01_k».proof.Proof.Ideal.Body

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (XA : Dev nD → ℕ → S2048x1024.Idx → Elt F .f32) (XB : Dev nD → ℕ → S1024x1024.Idx → Elt F .f32)

/-- With every copy sent, all of them are there to be waited for. -/
theorem mid_done (c : Dev nD) :
    mid c ∅ ∅ ⊢ iprop(pool (stg XA XB) c 0 Finset.univ ∗ pool (stg XA XB) c 2 Finset.univ ∗ pool (stg XA XB) c 3 Finset.univ
      ∗ (bigSep Finset.univ fun m : Fin 8 => atPos ER (dC 1 m c) 1 ∅ 0) ∗ atPos ER (barC c) 1 ∅ 0) := by
  unfold mid pool xs1 ys1 zs wt
  simp only [Finset.sdiff_empty, Finset.sdiff_self, bigSep_empty, bigSep_sep']
  iintro ⟨-, HX, -, ⟨HA1, HY⟩, ⟨HA0, HA2, HA3, HC3⟩, Hb⟩
  isplitl [HX HA0]
  · isplitl [HX HA0]
    · isplitl [HA0]; · iexact HA0
      iexact HX
    iempintro
  isplitl [HY HA2]
  · isplitl [HY HA2]
    · isplitl [HA2]; · iexact HA2
      iexact HY
    iempintro
  isplitl [HA3 HC3]
  · isplitl [HA3 HC3]
    · isplitl [HA3]; · iexact HA3
      iexact HC3
    iempintro
  isplitl [HA1]; · iexact HA1
  iexact Hb

/-- A pool with nothing left to wait for. -/
theorem pool_done (stg : Dev nD → Fin 8 → S1024x512.Idx → Elt F .bf16) (c : Dev nD) (a : Fin 4) :
    pool stg c a ∅ ⊢ iprop((bigSep Finset.univ fun m : Fin 8 => atPos ER (dC a m c) 1 ∅ 0) ∗ bigSep Finset.univ fun m => copyPay stg c a m) := by
  unfold pool wd
  simp only [Finset.sdiff_empty, bigSep_empty, bigSep_sep']
  iintro ⟨-, H⟩; iexact H

/-- Over every copy cell is over the four kinds in turn. -/
theorem four_kinds (Φ : Fin 4 × Fin 8 → sProp 𝕄) :
    bigSep Finset.univ Φ = iprop((bigSep Finset.univ fun m => Φ (0, m)) ∗ (bigSep Finset.univ fun m => Φ (1, m))
      ∗ (bigSep Finset.univ fun m => Φ (2, m)) ∗ bigSep Finset.univ fun m => Φ (3, m)) := by
  rw [bigSep_univ_prod]
  rw [show (Finset.univ : Finset (Fin 4)) = insert 0 (insert 1 (insert 2 {3})) from by decide, bigSep_put (by decide), bigSep_put (by decide),
    bigSep_put (by decide), bigSep_singleton]

/-- Every copy waited for, the copy cells are closed. -/
theorem close_all (κ : GSem nD τ sig → ℕ) (stg : Dev nD → Fin 8 → S1024x512.Idx → Elt F .bf16) (c : Dev nD) :
    iprop(known stg κ c ∗ pool stg c 0 ∅ ∗ pool stg c 2 ∅ ∗ pool stg c 3 ∅
      ∗ (bigSep Finset.univ fun m : Fin 8 => atPos ER (dC 1 m c) 1 ∅ 0) ∗ atPos ER (barC c) 1 ∅ 0) ⊢ (|={Set.univ}=> fin' stg c : sProp 𝕄) := by
  have hcl := Rounds.cells_close ER (Rd stg) (Finset.univ : Finset (Fin 4 × Fin 8)) (fun k => dC k.1 k.2 c) (fun k => κ (dC k.1 k.2 c)) (Es := Set.univ)
    (fun _ _ => Set.mem_univ _) (fun _ _ => id) (fun _ => 1) (fun _ _ => duties_later stg _)
  iintro ⟨#HK, H0, H2, H3, H1, Hb⟩
  ihave H0 := (pool_done stg c 0) $$ H0
  ihave H2 := (pool_done stg c 2) $$ H2
  ihave H3 := (pool_done stg c 3) $$ H3
  icases H0 with ⟨A0, P0⟩
  icases H2 with ⟨A2, P2⟩
  icases H3 with ⟨A3, P3⟩
  imod hcl $$ [A0 H1 A2 A3] with HS
  · rw [bigSep_sep' (Finset.univ : Finset (Fin 4 × Fin 8)) (fun k => cellInv ER (Rd stg) (κ (dC k.1 k.2 c)) (dC k.1 k.2 c))]
    isplitr
    · iapply (bigSep_intro_persistent (S := Finset.univ) (fun k _ => known_inv_copy stg κ c c k.1 k.2)); iexact HK
    rw [four_kinds]
    isplitl [A0]; · iexact A0
    isplitl [H1]; · iexact H1
    isplitl [A2]; · iexact A2
    iexact A3
  imodintro
  unfold fin'
  isplitl [HS]; · iexact HS
  isplitl [Hb]; · iexact Hb
  isplitl [P0]; · iexact P0
  isplitl [P2]; · iexact P2
  iexact P3

/-- All copies sent, the last point's waits begin. -/
theorem last_in (κ : GSem nD τ sig → ℕ) (c : Dev nD) {R : sProp 𝕄} :
    iprop(known (stg XA XB) κ c ∗ owesE c 0 ∗ mid c ∅ ∅ ∗ R)
      ⊢ iprop(known (stg XA XB) κ c ∗ owesE c 0 ∗ pool (stg XA XB) c 0 Finset.univ ∗ pool (stg XA XB) c 2 Finset.univ ∗ pool (stg XA XB) c 3 Finset.univ
        ∗ ((bigSep Finset.univ fun m : Fin 8 => atPos ER (dC 1 m c) 1 ∅ 0) ∗ atPos ER (barC c) 1 ∅ 0) ∗ R) := by
  iintro ⟨HK, HO, HM, HR⟩
  ihave H := (mid_done XA XB c) $$ HM
  icases H with ⟨H0, H2, H3, H1, Hb⟩
  isplitl [HK]; · iexact HK
  isplitl [HO]; · iexact HO
  isplitl [H0]; · iexact H0
  isplitl [H2]; · iexact H2
  isplitl [H3]; · iexact H3
  isplitl [H1 Hb]
  · isplitl [H1]; · iexact H1
    iexact Hb
  iexact HR

/-- One kind of copy waited for, the next one's turn. -/
theorem turn {K O A B D R : sProp 𝕄} : iprop(K ∗ O ∗ A ∗ B ∗ D ∗ R) ⊢ iprop(K ∗ O ∗ B ∗ D ∗ A ∗ R) := by
  iintro ⟨HK, HO, HA, HB, HD, HR⟩
  isplitl [HK]; · iexact HK
  isplitl [HO]; · iexact HO
  isplitl [HB]; · iexact HB
  isplitl [HD]; · iexact HD
  isplitl [HA]; · iexact HA
  iexact HR

/-- All copies waited for, the copy cells are closed. -/
theorem last_out (κ : GSem nD τ sig → ℕ) (c : Dev nD) {R : sProp 𝕄} :
    iprop(known (stg XA XB) κ c ∗ owesE c 0 ∗ pool (stg XA XB) c 3 ∅ ∗ pool (stg XA XB) c 0 ∅ ∗ pool (stg XA XB) c 2 ∅
        ∗ ((bigSep Finset.univ fun m : Fin 8 => atPos ER (dC 1 m c) 1 ∅ 0) ∗ atPos ER (barC c) 1 ∅ 0) ∗ R)
      ⊢ |={Set.univ}=> iprop(owesE c 0 ∗ fin' (stg XA XB) c ∗ R) := by
  iintro ⟨HK, HO, H3, H0, H2, ⟨H1, Hb⟩, HR⟩
  imod (close_all κ (stg XA XB) c) $$ [HK H0 H1 H2 H3 Hb] with HF
  · isplitl [HK]; · iexact HK
    isplitl [H0]; · iexact H0
    isplitl [H2]; · iexact H2
    isplitl [H3]; · iexact H3
    isplitl [H1]; · iexact H1
    iexact Hb
  imodintro
  isplitl [HO]; · iexact HO
  isplitl [HF]; · iexact HF
  iexact HR

/-- A run may begin with an update. -/
theorem fupd_run (c : Dev nD) {α : Type} {p : Prog (TpuEff nD τ sig (Elt F) Λ₀ .tc) α} {P : sProp 𝕄} {Q : α → sProp 𝕄}
    (h : P ⊢ wp frame (wpE (defs₀ (F := F)) 𝒱₀ (c : Thread nD τ) none) Set.univ p Q) :
    (|={Set.univ}=> P) ⊢ wp frame (wpE (defs₀ (F := F)) 𝒱₀ (c : Thread nD τ) none) Set.univ p Q := by
  refine BIBase.Entails.trans ?_ (fupd_wp _ _ _ _ _)
  iintro H; imod H; imodintro; iapply h; iexact H

/-- A fact held is a fact known. -/
theorem pure_out {φ : Prop} {Q R : sProp 𝕄} (h : φ → Q ⊢ R) : iprop(⌜φ⌝ ∗ Q) ⊢ R := by
  iintro ⟨%hφ, H⟩; iapply (h hφ); iexact H

/-- The product for the row partner added to its block. -/
theorem step_acc (c : Dev nD) {α : Type} {M3 : Memref sig .tc .vmem S1024x1024 .f32} {M7 : Memref sig .tc .vmem S1024x512 .f32}
    {XR : S1024x1024.Idx → Elt F .f32} {X : S1024x1024.Idx → Elt F .f32} {a₁ a₂ : S1024x512.Idx → Elt F .f32} (hA : k1_pay1 XR (halfCols c X) a₁ = a₂)
    {hl₁ : M3.view.LoadsAt (Rect.unit (s := S1024x1024) (k1_off3 c) S1024x512.size (k1_off3_inb c)).toLoadRect}
    {hl₂ : M7.view.LoadsAt (Rect.unit (s := S1024x512) ![0, 0] S1024x512.size inb_S1024x512_S1024x512_0_0).toLoadRect}
    {hx : (M7.access (Rect.unit (s := S1024x512) ![0, 0] S1024x512.size inb_S1024x512_S1024x512_0_0)).Stores Finset.univ}
    {hm : Finset.univ = Finset.univ ∨ ∀ a, (Rect.unit (s := S1024x512) ![0, 0] S1024x512.size inb_S1024x512_S1024x512_0_0).stride a = 1}
    {k : PUnit → Prog (TpuEff nD τ sig (Elt F) Λ₀ .tc) α} {Q : α → sProp 𝕄} {A B C H2 H4 : sProp 𝕄}
    (hk : iprop(A ∗ B ∗ C ∗ H2 ∗ owns (c : Thread nD τ) M3 fullShare X ∗ H4 ∗ owns (c : Thread nD τ) M7 fullShare a₂)
      ⊢ wp frame (wpE (defs₀ (F := F)) 𝒱₀ (c : Thread nD τ) none) Set.univ (k ⟨⟩) Q) :
    iprop(A ∗ B ∗ C ∗ H2 ∗ owns (c : Thread nD τ) M3 fullShare X ∗ H4 ∗ owns (c : Thread nD τ) M7 fullShare a₁)
      ⊢ wp frame (wpE (defs₀ (F := F)) 𝒱₀ (c : Thread nD τ) none) Set.univ
          (.op (.load M3 (Rect.unit (s := S1024x1024) (k1_off3 c) S1024x512.size (k1_off3_inb c)).toLoadRect hl₁) fun v =>
            .op (.load M7 (Rect.unit (s := S1024x512) ![0, 0] S1024x512.size inb_S1024x512_S1024x512_0_0).toLoadRect hl₂) fun z =>
            .op (.load M7 (Rect.unit (s := S1024x512) ![0, 0] S1024x512.size inb_S1024x512_S1024x512_0_0).toLoadRect hl₂) fun _ =>
            .op (.store M7 (Rect.unit (s := S1024x512) ![0, 0] S1024x512.size inb_S1024x512_S1024x512_0_0) (k1_pay1 XR v z) Finset.univ hx hm) k) Q := by
  have e1 : (![0, 0] : Fin S1024x512.rank → ℕ) = fun _ => 0 := by decide
  subst hA
  iintro ⟨HK, HO, HM, H2, H3, H4, HA⟩
  iapply (wp_load_owns (F := F) c (M := M3) (X := X)) $$ H3; iintro H3
  iapply (wp_load_full (F := F) c (M := M7) (o := ![0, 0]) (hb := inb_S1024x512_S1024x512_0_0) (X := a₁) e1) $$ HA; iintro HA
  iapply (wp_load_full (F := F) c (M := M7) (o := ![0, 0]) (hb := inb_S1024x512_S1024x512_0_0) (X := a₁) e1) $$ HA; iintro HA
  iapply (wp_store_full (F := F) c (M := M7) (o := ![0, 0]) (hb := inb_S1024x512_S1024x512_0_0) (X := a₁)
    (w := k1_pay1 XR (halfCols c X) a₁) e1) $$ HA; iintro HA
  iapply hk
  isplitl [HK]; · iexact HK
  isplitl [HO]; · iexact HO
  isplitl [HM]; · iexact HM
  isplitl [H2]; · iexact H2
  isplitl [H3]; · iexact H3
  isplitl [H4]; · iexact H4
  iexact HA

set_option maxHeartbeats 2000000 in
/-- One point: the blocks advance, and of the copies what falls to the point is sent and waited for. -/
theorem body_run (κ : GSem nD τ sig → ℕ) (c : Dev nD) (t : Fin 32)
    {M2 : Memref sig .tc .vmem S2048x1024 .f32} {h2 : M2.IsWhole} {M3 M4 : Memref sig .tc .vmem S1024x1024 .f32} {h3 : M3.IsWhole} {h4 : M4.IsWhole}
    {h5 h6} {M7 : Memref sig .tc .vmem S1024x512 .f32} {h7 : M7.IsWhole} {p₀ : S1024x1024.Idx → Elt F .f32} {a₀ : S1024x512.Idx → Elt F .f32}
    (hp : t.val % 4 ≠ 0 → p₀ = pAt XA XB c (t.val - 1)) (ha : t.val % 4 ≠ 0 → a₀ = aAt XA XB c (t.val - 1)) :
    iprop(known (stg XA XB) κ c ∗ owesE c (due c t.val) ∗ core XA XB c t.val
        ∗ owns (c : Thread nD τ) M2 fullShare (XA c t.val) ∗ owns (c : Thread nD τ) M3 fullShare (XB c t.val)
        ∗ owns (c : Thread nD τ) M4 fullShare p₀ ∗ owns (c : Thread nD τ) M7 fullShare a₀)
      ⊢ wp frame (wpE (defs₀ (F := F)) 𝒱₀ (c : Thread nD τ) none) Set.univ
          (cc1__fused_body (grid1.coords t) M2 h2 M3 h3 M4 h4 (Memref.whole main_v3_1) h5 (Memref.whole cc1_scratch0) h6 M7 h7
            cc1_scratch2 cc1_scratch3 cc1_scratch4 cc1_scratch5)
          (fun _ => iprop(owesE c (due c (t.val + 1)) ∗ core XA XB c (t.val + 1)
            ∗ owns (c : Thread nD τ) M2 fullShare (XA c t.val) ∗ owns (c : Thread nD τ) M3 fullShare (XB c t.val)
            ∗ owns (c : Thread nD τ) M4 fullShare (pAt XA XB c t.val) ∗ owns (c : Thread nD τ) M7 fullShare (aAt XA XB c t.val))) := by
  have e1 : (![0, 0] : Fin S1024x512.rank → ℕ) = fun _ => 0 := by decide
  simp only [cc1__fused_body_eq_skeleton]; unfold cc1__fused_body_skel
  rw [wp_bind]
  refine (part10_run XA XB κ c t hp).trans (wp_mono _ _ _ fun x => ?_)
  obtain ⟨x0, x1, d, x2, x5, x6, x7, v⟩ := x
  dsimp only
  refine pure_out fun hx => ?_
  obtain ⟨hd, hv⟩ := hx
  replace hd := hd.symm
  subst hd hv
  simp only [Prog.lift, Prog.bind_op, Prog.bind_ret, Prog.pure_eq_ret]
  generalize ha' : (if t.val % 4 = 0 then k1_pay4 (F := F) else a₀) = a₁
  have hA : k1_pay1 (otherRows c (XA c t.val)) (halfCols c (XB c t.val)) a₁ = aAt XA XB c t.val := by
    rw [← ha']
    by_cases h0 : t.val % 4 = 0
    · rw [if_pos h0, aAt_start XA XB c h0]; rfl
    · rw [if_neg h0, aAt_next XA XB c h0, ha h0]; rfl
  refine step_acc c hA ?_
  refine run_join c (Q' := iprop(known (stg XA XB) κ c ∗ owesE c (xDue c (sx (t.val + 1)) + yDue c (sy t.val)) ∗ mid c (sx (t.val + 1)) (sy t.val)
    ∗ owns (c : Thread nD τ) M2 fullShare (XA c t.val) ∗ owns (c : Thread nD τ) M3 fullShare (XB c t.val)
    ∗ owns (c : Thread nD τ) M4 fullShare (pAt XA XB c t.val) ∗ owns (c : Thread nD τ) M7 fullShare (aAt XA XB c t.val))) ?_ ?_ ?_
  rotate_left
  · intro h
    rw [sx_keep t fun h' => h ((cond3_iff t).mpr h')]
  · intro h hr
    have h3 : t.val % 4 = 3 := (cond3_iff t).mp h
    obtain ⟨hm, he⟩ := sx_step t h3
    have hs : unsq (k1_pay2 (aAt XA XB c t.val)) = stg XA XB c (nOf t) := by
      unfold stg; rw [show 4 * (nOf t).val + 3 = t.val from by unfold nOf; dsimp only; omega]
    rw [he] at hr
    unfold mid
    rw [bigSep_take hm]
    iintro ⟨HK, HO, ⟨⟨Hx, HX⟩, HM⟩, H2, H3, H4, HA⟩
    unfold xs0
    icases Hx with ⟨⟨Ht1, Ht2, Hs⟩, Hd⟩
    iapply (wp_load_full (F := F) c (M := M7) (o := ![0, 0]) (hb := inb_S1024x512_S1024x512_0_0) (X := aAt XA XB c t.val) e1) $$ HA; iintro HA
    iapply (wp_load_slot (F := F) c (nOf t) (off4_eq t)) $$ Hs; iintro %_ Hs
    iapply (wp_store_slot (F := F) c (nOf t) (off4_eq t) (w := k1_pay2 (aAt XA XB c t.val))) $$ Hs; iintro Hs
    rw [hs]
    iapply (step_x (stg XA XB) κ c (nOf t) hm (by rw [slice_st (nOf t) _ (off7_eq t)]) (slice_po (nOf t) (hy c) _ (off6_eq t c) _)
      (sem_xs (nOf t) _ (off5_eq t) _) (sem_xr (nOf t) _ (off5_eq t) _) (dev3_eq c _) hr)
    isplitl [HK]; · iexact HK
    isplitl [HO]; · iexact HO
    isplitl [HX HM]
    · isplitl [HX]; · iexact HX
      iexact HM
    isplitl [Ht1 Ht2 Hs]
    · isplitl [Ht1]; · iexact Ht1
      isplitl [Ht2]; · iexact Ht2
      iexact Hs
    isplitl [Hd]; · iexact Hd
    isplitl [H2]; · iexact H2
    isplitl [H3]; · iexact H3
    isplitl [H4]; · iexact H4
    iexact HA
  refine run_join c (Q' := iprop(known (stg XA XB) κ c
    ∗ owesE c (xDue c (sx (t.val + 1)) + yDue c (if t.val = 31 then sy 31 else sy (t.val + 1)))
    ∗ mid c (sx (t.val + 1)) (if t.val = 31 then sy 31 else sy (t.val + 1))
    ∗ owns (c : Thread nD τ) M2 fullShare (XA c t.val) ∗ owns (c : Thread nD τ) M3 fullShare (XB c t.val)
    ∗ owns (c : Thread nD τ) M4 fullShare (pAt XA XB c t.val) ∗ owns (c : Thread nD τ) M7 fullShare (aAt XA XB c t.val))) ?_ ?_ ?_
  rotate_left
  · intro h
    by_cases h' : t.val = 31
    · rw [if_pos h', h']
    · rw [if_neg h', sy_keep t (fun h'' => h ((cond4_iff t).mpr h'')) h']
  · intro h hr
    have h4 := (cond4_iff t).mp h
    obtain ⟨hm, he, hj⟩ := sy_step t h4
    rw [if_neg (by omega), he] at hr
    exact step_y (stg XA XB) κ c (pOf t) hm hj (by rw [slice_po (pOf t) (hy c) _ (off9_eq t h4.2 c)])
      (slice_po (pOf t) (hy c) _ (off9_eq t h4.2 c) _) (slice_po (pOf t) (hy c) _ (off9_eq t h4.2 c) _)
      (sem_xr (pOf t) _ (off8_eq t h4.2) _) (sem_ys (pOf t) _ (off8_eq t h4.2) _) (sem_yr (pOf t) _ (off8_eq t h4.2) _) (dev4_eq c _) hr
  refine run_dite c ?_ ?_
  rotate_left
  · intro h
    have h' : t.val ≠ 31 := fun h' => h ((cond5_iff t).mpr h')
    have hlt : t.val + 1 < 32 := by have := t.isLt; omega
    rw [if_neg h', due_mid c (Nat.succ_ne_zero _) hlt, core_mid XA XB c (Nat.succ_ne_zero _) hlt]
    refine BIBase.Entails.trans ?_ (run_ret c)
    iintro ⟨-, H⟩; iexact H
  intro h
  have h5 : t.val = 31 := (cond5_iff t).mp h
  simp only [k1_part1_eq_skeleton, k1_part2_eq_skeleton, k1_part3_eq_skeleton, k1_part4_eq_skeleton, k1_part5_eq_skeleton, k1_part6_eq_skeleton,
    k1_part7_eq_skeleton, k1_part8_eq_skeleton, k1_part9_eq_skeleton]
  unfold k1_part1_skel k1_part2_skel k1_part3_skel k1_part4_skel k1_part5_skel k1_part6_skel k1_part7_skel k1_part8_skel k1_part9_skel
  simp only [Prog.lift, Prog.bind_op, Prog.bind_ret, Prog.pure_eq_ret]
  generalize XA c t.val = A, XB c t.val = B, pAt XA XB c t.val = P, aAt XA XB c t.val = Z
  rw [if_pos h5, h5, sx_last, sy_last]
  refine step_y (stg XA XB) κ c 6 (by decide) (fun j hj => absurd hj (Finset.notMem_empty j)) (by rfl)
    (slice_po 6 (hy c) _ (off11_eq 6 c) _) (slice_po 6 (hy c) _ (off11_eq 6 c) _) (sem_xr 6 _ rfl _) (sem_ys 6 _ rfl _) (sem_yr 6 _ rfl _) (dev5_eq c _) ?_
  refine step_y (stg XA XB) κ c 7 (by decide) (fun j hj => absurd hj (Finset.notMem_empty j)) (by rfl)
    (slice_po 7 (hy c) _ (off11_eq 7 c) _) (slice_po 7 (hy c) _ (off11_eq 7 c) _) (sem_xr 7 _ rfl _) (sem_ys 7 _ rfl _) (sem_yr 7 _ rfl _) (dev6_eq c _) ?_
  rw [show (({6, 7} : Finset (Fin 8)).erase 6).erase 7 = ∅ from by decide, xDue_empty, yDue_empty, add_zero]
  refine BIBase.Entails.trans (last_in XA XB κ c) ?_
  refine step_wait (stg XA XB) κ c 0 0 (by decide) (sem_xs 0 _ rfl _) (by rfl) ?_
  refine step_wait (stg XA XB) κ c 0 1 (by decide) (sem_xs 1 _ rfl _) (by rfl) ?_
  refine step_wait (stg XA XB) κ c 0 2 (by decide) (sem_xs 2 _ rfl _) (by rfl) ?_
  refine step_wait (stg XA XB) κ c 0 3 (by decide) (sem_xs 3 _ rfl _) (by rfl) ?_
  refine step_wait (stg XA XB) κ c 0 4 (by decide) (sem_xs 4 _ rfl _) (by rfl) ?_
  refine step_wait (stg XA XB) κ c 0 5 (by decide) (sem_xs 5 _ rfl _) (by rfl) ?_
  refine step_wait (stg XA XB) κ c 0 6 (by decide) (sem_xs 6 _ rfl _) (by rfl) ?_
  refine step_wait (stg XA XB) κ c 0 7 (by decide) (sem_xs 7 _ rfl _) (by rfl) ?_
  refine BIBase.Entails.trans turn ?_
  refine step_wait (stg XA XB) κ c 2 0 (by decide) (sem_ys 0 _ rfl _) (by rfl) ?_
  refine step_wait (stg XA XB) κ c 2 1 (by decide) (sem_ys 1 _ rfl _) (by rfl) ?_
  refine step_wait (stg XA XB) κ c 2 2 (by decide) (sem_ys 2 _ rfl _) (by rfl) ?_
  refine step_wait (stg XA XB) κ c 2 3 (by decide) (sem_ys 3 _ rfl _) (by rfl) ?_
  refine step_wait (stg XA XB) κ c 2 4 (by decide) (sem_ys 4 _ rfl _) (by rfl) ?_
  refine step_wait (stg XA XB) κ c 2 5 (by decide) (sem_ys 5 _ rfl _) (by rfl) ?_
  refine step_wait (stg XA XB) κ c 2 6 (by decide) (sem_ys 6 _ rfl _) (by rfl) ?_
  refine step_wait (stg XA XB) κ c 2 7 (by decide) (sem_ys 7 _ rfl _) (by rfl) ?_
  refine BIBase.Entails.trans turn ?_
  refine step_wait (stg XA XB) κ c 3 0 (by decide) (sem_yr 0 _ rfl _) (by rfl) ?_
  refine step_wait (stg XA XB) κ c 3 1 (by decide) (sem_yr 1 _ rfl _) (by rfl) ?_
  refine step_wait (stg XA XB) κ c 3 2 (by decide) (sem_yr 2 _ rfl _) (by rfl) ?_
  refine step_wait (stg XA XB) κ c 3 3 (by decide) (sem_yr 3 _ rfl _) (by rfl) ?_
  refine step_wait (stg XA XB) κ c 3 4 (by decide) (sem_yr 4 _ rfl _) (by rfl) ?_
  refine step_wait (stg XA XB) κ c 3 5 (by decide) (sem_yr 5 _ rfl _) (by rfl) ?_
  refine step_wait (stg XA XB) κ c 3 6 (by decide) (sem_yr 6 _ rfl _) (by rfl) ?_
  refine step_wait (stg XA XB) κ c 3 7 (by decide) (sem_yr 7 _ rfl _) (by rfl) ?_
  have hN : ((((((((Finset.univ : Finset (Fin 8)).erase 0).erase 1).erase 2).erase 3).erase 4).erase 5).erase 6).erase 7 = ∅ := by decide
  rw [hN]
  refine BIBase.Entails.trans (last_out XA XB κ c) (fupd_run c ?_)
  refine BIBase.Entails.trans ?_ (run_ret c)
  unfold due core
  rw [if_neg (by omega), if_neg (by omega), if_neg (by omega), if_neg (by omega)]

end Cert.KernelIdeal.Talk

end
-- ==== Proof.Ideal.Memory.lean ====
/-
  The two buffers that the copies move, cut into what each copy moves and put back together: the receive buffer into the
  sixteen half column blocks, the staging buffer into its eight slots.
-/
module

public import proofs.«01_k».proof.Proof.Ideal.State

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The rectangles cover and do not meet -/

theorem mem_po (m : Fin 8) (h : Fin 2) (i : S1024x8192.Idx) :
    i ∈ (poRect m h).set ↔ m.val * 1024 + h.val * 512 ≤ (i 1).val ∧ (i 1).val < m.val * 1024 + h.val * 512 + 512 := by
  have h0 : (i 0).val < 1024 := (i 0).isLt
  rw [Rect.mem_set_unit]
  constructor
  · intro H; exact H 1
  · intro H a
    match a with
    | 0 => exact ⟨Nat.zero_le _, by simpa using h0⟩
    | 1 => exact H

theorem po_disjoint (k k' : Fin 8 × Fin 2) (hk : k ≠ k') : Disjoint (poRect k.1 k.2).set (poRect k'.1 k'.2).set := by
  rw [Finset.disjoint_left]
  intro i hi hi'
  rw [mem_po] at hi hi'
  apply hk
  have h1 := k.2.isLt
  have h2 := k'.2.isLt
  refine Prod.ext (Fin.ext ?_) (Fin.ext ?_) <;> omega

theorem po_cover : (Finset.univ : Finset (Fin 8 × Fin 2)).biUnion (fun k => (poRect k.1 k.2).set) = Finset.univ := by
  refine Finset.eq_univ_of_forall fun i => Finset.mem_biUnion.mpr ?_
  have h1 : (i 1).val < 8192 := (i 1).isLt
  refine ⟨(⟨(i 1).val / 1024, by omega⟩, ⟨(i 1).val / 512 % 2, by omega⟩), Finset.mem_univ _, ?_⟩
  rw [mem_po]; dsimp only; omega

theorem mem_st (m : Fin 8) (i : S8x1024x512.Idx) : i ∈ (stRect m).set ↔ (i 0).val = m.val := by
  have h1 : (i 1).val < 1024 := (i 1).isLt
  have h2 : (i 2).val < 512 := (i 2).isLt
  rw [Rect.mem_set_unit]
  constructor
  · intro H
    have := H 0
    simp at this
    omega
  · intro H a
    match a with
    | 0 => simp; omega
    | 1 => exact ⟨Nat.zero_le _, by simpa using h1⟩
    | 2 => exact ⟨Nat.zero_le _, by simpa using h2⟩

theorem st_disjoint (m m' : Fin 8) (hm : m ≠ m') : Disjoint (stRect m).set (stRect m').set := by
  rw [Finset.disjoint_left]
  intro i hi hi'
  rw [mem_st] at hi hi'
  exact hm (Fin.ext (hi.symm.trans hi'))

theorem st_cover : (Finset.univ : Finset (Fin 8)).biUnion (fun m => (stRect m).set) = Finset.univ := by
  refine Finset.eq_univ_of_forall fun i => Finset.mem_biUnion.mpr ?_
  exact ⟨⟨(i 0).val, (i 0).isLt⟩, Finset.mem_univ _, (mem_st _ _).mpr rfl⟩

/-! ## The receive buffer -/

/-- Over both halves is over one and the other. -/
theorem two_halves (h : Fin 2) (Φ : Fin 8 × Fin 2 → sProp 𝕄) :
    bigSep Finset.univ Φ = iprop((bigSep Finset.univ fun m => Φ (m, h)) ∗ bigSep Finset.univ fun m => Φ (m, fl h)) := by
  have e : (Finset.univ : Finset (Fin 2)) = insert h {fl h} := by revert h; decide
  have hh : h ∉ ({fl h} : Finset (Fin 2)) := by revert h; decide
  rw [bigSep_univ_prod, e]
  simp only [bigSep_put hh, bigSep_singleton]
  exact bigSep_sep' (Finset.univ : Finset (Fin 8)) (fun m => Φ (m, h)) (fun m => Φ (m, fl h))

/-- The receive buffer, whole, is its blocks at any contents. -/
theorem po_split (c : Dev nD) (f : Buf (Elt F) ((c : Thread nD τ).loc main_v3_1)) :
    (((c : Thread nD τ).loc main_v3_1) ↦{fullShare} f : sProp 𝕄)
      ⊢ iprop((bigSep Finset.univ fun m : Fin 8 => ownsAny c (PO m (hy c))) ∗ bigSep Finset.univ fun m : Fin 8 => ownsAny c (PO m (fl (hy c)))) := by
  refine BIBase.Entails.trans (Entails.of_eq (owns_whole (c : Thread nD τ) main_v3_1 fullShare f).symm) ?_
  refine BIBase.Entails.trans (owns_rects (c : Thread nD τ) (Memref.whole main_v3_1) fullShare (fun k : Fin 8 × Fin 2 => poRect k.1 k.2)
    (fun _ _ => rfl) po_disjoint po_cover f) ?_
  refine BIBase.Entails.trans (bigSep_mono fun k _ => ownsSat_intro (c : Thread nD τ) (PO k.1 k.2) fullShare (Φ := fun _ => True) trivial) ?_
  exact Entails.of_eq (two_halves (hy c) fun k => ownsAny c (PO k.1 k.2))

variable (stg : Dev nD → Fin 8 → S1024x512.Idx → Elt F .bf16)

/-- The device whose row partner filled half `h` of device `c`'s receive buffer: `c` itself, or its column partner, which
    passed on what it had received. -/
def via (c : Dev nD) (h : Fin 2) : Dev nD := if h = hy c then xp c else xp (yp c)

/-- The receive buffer after the talk. -/
def recvd (c : Dev nD) : S1024x8192.Idx → Elt F .bf16 :=
  Rect.glue (fun k : Fin 8 × Fin 2 => poRect k.1 k.2) po_cover fun k => stg (via c k.2) k.1

theorem recvd_emb (c : Dev nD) (k : Fin 8 × Fin 2) (j : S1024x512.Idx) : recvd stg c ((poRect k.1 k.2).emb j) = stg (via c k.2) k.1 j :=
  Rect.glue_emb (fun k : Fin 8 × Fin 2 => poRect k.1 k.2) po_cover po_disjoint (fun k => stg (via c k.2) k.1) k j

/-- The blocks as the copies left them are the receive buffer after the talk. -/
theorem po_join (c : Dev nD) :
    iprop((bigSep Finset.univ fun m => copyPay stg c 2 m) ∗ bigSep Finset.univ fun m => copyPay stg c 3 m)
      ⊢ (((c : Thread nD τ).loc main_v3_1) ↦{fullShare} (recvd stg c : Buf (Elt F) ((c : Thread nD τ).loc main_v3_1)) : sProp 𝕄) := by
  refine BIBase.Entails.trans ?_ (Entails.of_eq (owns_whole (c : Thread nD τ) main_v3_1 fullShare (recvd stg c)))
  refine BIBase.Entails.trans ?_ (owns_of_rects (c : Thread nD τ) (Memref.whole main_v3_1) fullShare (fun k : Fin 8 × Fin 2 => poRect k.1 k.2)
    (fun _ _ => rfl) po_disjoint po_cover (recvd stg c))
  have e1 : ∀ m, (fun j => recvd stg c ((poRect m (hy c)).emb j)) = stg (xp c) m := fun m => funext fun j =>
    (recvd_emb stg c (m, hy c) j).trans (by unfold via; rw [if_pos rfl])
  have e2 : ∀ m, (fun j => recvd stg c ((poRect m (fl (hy c))).emb j)) = stg (xp (yp c)) m := fun m => funext fun j =>
    (recvd_emb stg c (m, fl (hy c)) j).trans (by unfold via; rw [if_neg (fl_ne (hy c))])
  rw [two_halves (hy c)]
  simp only [e1, e2]
  exact .rfl

/-! ## The staging buffer -/

/-- A slot owned as it is sliced is owned as it is sent. -/
theorem any_of_stg3 (c : Dev nD) (m : Fin 8) (X : S1x1024x512.Idx → Elt F .bf16) :
    (owns (c : Thread nD τ) (STG3 m) fullShare X : sProp 𝕄) ⊢ (ownsAny c (STG m) : sProp 𝕄) := by
  rw [ownsAny_stg]
  unfold owns
  iintro ⟨%g, -, H⟩
  iexists g
  isplitr; · ipureintro; trivial
  iexact H

/-- The staging buffer, whole, is its slots at any contents. -/
theorem st_split (c : Dev nD) (f : Buf (Elt F) ((c : Thread nD τ).loc cc1_scratch0)) :
    (((c : Thread nD τ).loc cc1_scratch0) ↦{fullShare} f : sProp 𝕄) ⊢ bigSep Finset.univ fun m : Fin 8 => ownsAny c (STG m) := by
  refine BIBase.Entails.trans (Entails.of_eq (owns_whole (c : Thread nD τ) cc1_scratch0 fullShare f).symm) ?_
  refine BIBase.Entails.trans (owns_rects (c : Thread nD τ) (Memref.whole cc1_scratch0) fullShare stRect
    (fun _ _ => rfl) st_disjoint st_cover f) ?_
  exact bigSep_mono fun m _ => any_of_stg3 c m _

/-- The slots as they were sent are the staging buffer at some contents. -/
theorem st_join (c : Dev nD) :
    (bigSep Finset.univ fun m => copyPay stg c 0 m)
      ⊢ (iprop(∃ f : Buf (Elt F) ((c : Thread nD τ).loc cc1_scratch0), ((c : Thread nD τ).loc cc1_scratch0) ↦{fullShare} f) : sProp 𝕄) := by
  have hs : ∀ m ∈ (Finset.univ : Finset (Fin 8)), copyPay stg c 0 m ⊢ (ownsAny c (STG3 m) : sProp 𝕄) := fun m _ => by
    show (owns (c : Thread nD τ) (STG m) fullShare (stg c m) : sProp 𝕄) ⊢ _
    rw [owns_stg]
    refine BIBase.Entails.trans ?_ (ownsSat_true (c : Thread nD τ) (STG3 m) fullShare).2
    iintro ⟨%g, -, H⟩
    iexists (STG3 m).view.read (Elt F) g
    unfold owns
    iexists g
    isplitr; · ipureintro; rfl
    iexact H
  refine BIBase.Entails.trans (bigSep_mono hs) ?_
  refine BIBase.Entails.trans (ownsSat_of_rects (c : Thread nD τ) (Memref.whole cc1_scratch0) fullShare stRect
    (fun _ _ => rfl) st_disjoint st_cover fun _ _ => True) ?_
  refine BIBase.Entails.trans (ownsSat_any (c : Thread nD τ) (Memref.whole cc1_scratch0) fullShare) ?_
  iintro ⟨%X, H⟩
  iexists X
  iapply (Entails.of_eq (owns_whole (c : Thread nD τ) cc1_scratch0 fullShare X)); iexact H

end Cert.KernelIdeal.Talk

end
-- ==== Proof.Ideal.Quiet.lean ====
/-
  The two regions that talk to no other device: the one that lays the first operand out flat and the one that adds the two
  partial products. What each leaves in its result's blocks, and that its body does so at every grid point.
-/
module

public import proofs.«01_k».proof.Proof.Ideal.Steps
public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.Frame

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- A core that owes `O` owes it before point `t` of a region that says so. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (owesE c O : sProp 𝕄) ⊢ (dat.owesAt () t : sProp 𝕄) := by
  unfold owesE Dat.owesAt Pipeline.owesWithin Dat.bound; rw [h0, hr]
  iintro ⟨%W, HO⟩
  iexists W
  isplitr; · ipureintro; exact fun _ _ => Or.inl trivial
  iexact HO
/-- and conversely. -/
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ (owesE c O : sProp 𝕄) := by
  unfold owesE Dat.owesAt Pipeline.owesWithin; rw [h0]
  iintro ⟨%W, -, HO⟩
  iexists W; iexact HO

/-! The unscoped buffers at the region's entry. -/
variable (V : Dev nD → Valuation τ sig (Elt F))

/-- Block `t` of the first operand, as the flattening region reads it. -/
def blkR (c : Dev nD) (t : Fin cfg0.N) : S256x32x128.Idx → Elt F .f32 :=
  (win0_0.blk t).view.read (Elt F) (V c (Proc.devRef .tc main_v1))
/-- Block `t` of each partial product, as the adding region reads it. -/
def blkP (c : Dev nD) (t : Fin cfg2.N) : S1024x1024.Idx → Elt F .f32 :=
  (win2_0.blk t).view.read (Elt F) (V c (Proc.devRef .tc main_v3_0))
def blkQ (c : Dev nD) (t : Fin cfg2.N) : S1024x1024.Idx → Elt F .bf16 :=
  (win2_1.blk t).view.read (Elt F) (V c (Proc.devRef .tc main_v3_1))

/-- The flattening region: each point writes its block laid out flat. -/
def dat0 (c : Dev nD) : Dat τ (Elt F) Unit ℕ UU ℕ cfg0 c where
  A w := V c (Proc.devRef .tc (Pipeline.arrRef spec0 w))
  after
    | 0 => fun t => blkR V c t
    | 1 => fun t => k0_pay1 (blkR V c t)
    | ⟨_ + 2, h⟩ => absurd h (Nat.not_lt.2 (Nat.le_add_left _ _))
  Φ _ := Pipeline.scopedRest spec0 c
  q _ := fullShare
  owed _ := O₀ c

/-- The adding region: each point writes the sum of its two blocks. -/
def dat2 (c : Dev nD) : Dat τ (Elt F) Unit ℕ UU ℕ cfg2 c where
  A w := V c (Proc.devRef .tc (Pipeline.arrRef spec2 w))
  after
    | 0 => fun t => blkP V c t
    | 1 => fun t => blkQ V c t
    | 2 => fun t => k2_pay1 (blkP V c t) (blkQ V c t)
    | ⟨_ + 3, h⟩ => absurd h (Nat.not_lt.2 (Nat.le_add_left _ _))
  Φ _ := Pipeline.scopedRest spec2 c
  q _ := fullShare
  owed _ := 0

theorem before0_0 (c : Dev nD) (t : Fin cfg0.N) (d) : (dat0 V c).before 0 t d = blkR V c t :=
  (dat0 V c).before_fetched 0 t (fetch0_0 t) d
theorem before2_0 (c : Dev nD) (t : Fin cfg2.N) (d) : (dat2 V c).before 0 t d = blkP V c t :=
  (dat2 V c).before_fetched 0 t (fetch2_0 t) d
theorem before2_1 (c : Dev nD) (t : Fin cfg2.N) (d) : (dat2 V c).before 1 t d = blkQ V c t :=
  (dat2 V c).before_fetched 1 t (fetch2_1 t) d

/-- The flattening kernel's body: its result's buffer ends at the operand's block laid out flat. -/
theorem flat_run (c : Dev nD) (i : grid0.Coords) {M1 : Memref sig .tc .vmem S256x32x128 .f32} {h1 : M1.IsWhole}
    {M2 : Memref sig .tc .vmem S256x4096 .f32} {h2 : M2.IsWhole} (X : S256x32x128.Idx → Elt F .f32) (Y : S256x4096.Idx → Elt F .f32) {Q : PUnit → sProp 𝕄} :
    (iprop(owns (c : Thread nD τ) M1 fullShare X ∗ owns (c : Thread nD τ) M2 fullShare Y
        ∗ ((owns (c : Thread nD τ) M1 fullShare X ∗ owns (c : Thread nD τ) M2 fullShare (k0_pay1 X)) -∗ Q ⟨⟩)) : sProp 𝕄)
      ⊢ wp frame (wpE (defs₀ (F := F)) 𝒱₀ (c : Thread nD τ) none) Set.univ (cc0__relayout_body i M1 h1 M2 h2) Q := by
  have e3 : (![0, 0, 0] : Fin S256x32x128.rank → ℕ) = fun _ => 0 := by decide
  have e2 : (![0, 0] : Fin S256x4096.rank → ℕ) = fun _ => 0 := by decide
  simp only [cc0__relayout_body_eq_skeleton]; unfold cc0__relayout_body_skel
  simp only [Prog.lift, Prog.bind_op, Prog.bind_ret, Prog.pure_eq_ret]
  iintro ⟨H1, H2, Hk⟩
  iapply (wp_load_full c (M := M1) (o := ![0, 0, 0]) e3 (hb := inb_S256x32x128_S256x32x128_0_0_0) (X := X)) $$ H1
  iintro H1
  iapply (wp_load_full c (M := M2) (o := ![0, 0]) e2 (hb := inb_S256x4096_S256x4096_0_0) (X := Y)) $$ H2
  iintro H2
  iapply (wp_store_full c (M := M2) (o := ![0, 0]) e2 (hb := inb_S256x4096_S256x4096_0_0) (X := Y) (w := k0_pay1 X)) $$ H2
  iintro H2
  rw [wp_ret]
  imodintro
  iapply Hk
  isplitl [H1]; · iexact H1
  iexact H2

/-- The adding kernel's body: its result's buffer ends at the sum of the two blocks. -/
theorem add_run (c : Dev nD) (i : grid2.Coords) {M1 : Memref sig .tc .vmem S1024x1024 .f32} {h1 : M1.IsWhole}
    {M2 : Memref sig .tc .vmem S1024x1024 .bf16} {h2 : M2.IsWhole} {M3 : Memref sig .tc .vmem S1024x1024 .f32} {h3 : M3.IsWhole}
    (X : S1024x1024.Idx → Elt F .f32) (Y : S1024x1024.Idx → Elt F .bf16) (Z : S1024x1024.Idx → Elt F .f32)
    {Q : PUnit → sProp 𝕄} :
    (iprop(owns (c : Thread nD τ) M1 fullShare X ∗ owns (c : Thread nD τ) M2 fullShare Y ∗ owns (c : Thread nD τ) M3 fullShare Z
        ∗ ((owns (c : Thread nD τ) M1 fullShare X ∗ owns (c : Thread nD τ) M2 fullShare Y
            ∗ owns (c : Thread nD τ) M3 fullShare (k2_pay1 X Y)) -∗ Q ⟨⟩)) : sProp 𝕄)
      ⊢ wp frame (wpE (defs₀ (F := F)) 𝒱₀ (c : Thread nD τ) none) Set.univ (cc2__add_body i M1 h1 M2 h2 M3 h3) Q := by
  have e2 : (![0, 0] : Fin S1024x1024.rank → ℕ) = fun _ => 0 := by decide
  simp only [cc2__add_body_eq_skeleton]; unfold cc2__add_body_skel
  simp only [Prog.lift, Prog.bind_op, Prog.bind_ret, Prog.pure_eq_ret]
  iintro ⟨H1, H2, H3, Hk⟩
  iapply (wp_load_full c (M := M1) (o := ![0, 0]) e2 (hb := inb_S1024x1024_S1024x1024_0_0) (X := X)) $$ H1
  iintro H1
  iapply (wp_load_full c (M := M2) (o := ![0, 0]) e2 (hb := inb_S1024x1024_S1024x1024_0_0) (X := Y)) $$ H2
  iintro H2
  iapply (wp_load_full c (M := M3) (o := ![0, 0]) e2 (hb := inb_S1024x1024_S1024x1024_0_0) (X := Z)) $$ H3
  iintro H3
  iapply (wp_store_full c (M := M3) (o := ![0, 0]) e2 (hb := inb_S1024x1024_S1024x1024_0_0) (X := Z) (w := k2_pay1 X Y)) $$ H3
  iintro H3
  rw [wp_ret]
  imodintro
  iapply Hk
  isplitl [H1]; · iexact H1
  isplitl [H2]; · iexact H2
  iexact H3

/-- The flattening region's body leaves what its data say, at every point. -/
theorem body0 (c : Dev nD) : BodyObligation (dat0 (F := F) V c) defs₀ 𝒱₀ () Set.univ := fun t => by
  rw [bigSep_W0, bigSep_W0]
  rw [show (dat0 V c).Φ t.succ = (dat0 V c).Φ t.castSucc from rfl,
    show (dat0 V c).owesAt () t.succ = (dat0 V c).owesAt () t.castSucc from rfl]
  simp only [before0_0]
  iintro ⟨HΦ, HO, ⟨%d0, H0⟩, ⟨%d1, H1⟩⟩
  iapply (flat_run c (grid0.coords t) (M1 := st0_0 t) (h1 := hstage0_0 ((cfg0.slots t 0).cast nbuf0_0)) (M2 := st0_1 t)
    (h2 := hstage0_1 ((cfg0.slots t 1).cast nbuf0_1)) (blkR V c t) ((dat0 V c).before 1 t d1))
  isplitl [H0]; · iexact H0
  isplitl [H1]; · iexact H1
  iintro ⟨H0, H1⟩
  isplitl [HΦ]; · iexact HΦ
  isplitl [HO]; · iexact HO
  dsimp only [dat0]
  isplitl [H0]; · iexact H0
  iexact H1

/-- The adding region's body leaves what its data say, at every point. -/
theorem body2 (c : Dev nD) : BodyObligation (dat2 (F := F) V c) defs₀ 𝒱₀ () Set.univ := fun t => by
  rw [bigSep_W2, bigSep_W2]
  rw [show (dat2 V c).Φ t.succ = (dat2 V c).Φ t.castSucc from rfl,
    show (dat2 V c).owesAt () t.succ = (dat2 V c).owesAt () t.castSucc from rfl]
  simp only [before2_0, before2_1]
  iintro ⟨HΦ, HO, ⟨%d0, H0⟩, ⟨%d1, H1⟩, ⟨%d2, H2⟩⟩
  iapply (add_run c (grid2.coords t) (M1 := st2_0 t) (h1 := hstage2_0 ((cfg2.slots t 0).cast nbuf2_0)) (M2 := st2_1 t)
    (h2 := hstage2_1 ((cfg2.slots t 1).cast nbuf2_1)) (M3 := st2_2 t) (h3 := hstage2_2 ((cfg2.slots t 2).cast nbuf2_2))
    (blkP V c t) (blkQ V c t) ((dat2 V c).before 2 t d2))
  isplitl [H0]; · iexact H0
  isplitl [H1]; · iexact H1
  isplitl [H2]; · iexact H2
  iintro ⟨H0, H1, H2⟩
  isplitl [HΦ]; · iexact HΦ
  isplitl [HO]; · iexact HO
  dsimp only [dat2]
  isplitl [H0]; · iexact H0
  isplitl [H1]; · iexact H1
  iexact H2

end Cert.KernelIdeal.Talk

end
-- ==== Proof.Ideal.Fused.lean ====
/-
  The fused region: what its windows hold at every grid point, what its core holds of the talk between them, and that its
  body does what is said at every point.
-/
module

public import proofs.«01_k».proof.Proof.Ideal.Point
public import proofs.«01_k».proof.Proof.Ideal.Memory
public import proofs.«01_k».proof.Proof.Ideal.Quiet

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! The unscoped buffers at the region's entry. -/
variable (V : Dev nD → Valuation τ sig (Elt F))

/-- Grid point `t`, for a number. -/
def pt (t : ℕ) : Fin cfg1.N := ⟨t % 32, by rw [show cfg1.N = 32 from N_1]; exact Nat.mod_lt _ (by decide)⟩
theorem pt_val (t : Fin cfg1.N) : pt t.val = t :=
  Fin.ext (Nat.mod_eq_of_lt (Nat.lt_of_lt_of_eq t.isLt N_1))

/-- The block of the flattened first operand that point `t` reads. -/
def XA (c : Dev nD) (t : ℕ) : S2048x1024.Idx → Elt F .f32 := (win1_0.blk (pt t)).view.read (Elt F) (V c (Proc.devRef .tc main_v2))
/-- The block of the second operand that point `t` reads. -/
def XB (c : Dev nD) (t : ℕ) : S1024x1024.Idx → Elt F .f32 := (win1_1.blk (pt t)).view.read (Elt F) (V c (Proc.devRef .tc main_arg1))

/-- What is sent for each column block. -/
abbrev sent (c : Dev nD) (m : Fin 8) : S1024x512.Idx → Elt F .bf16 := stg (XA V) (XB V) c m

/-- The buffers of the region that it has no use for. -/
def spare (c : Dev nD) : sProp 𝕄 :=
  bigSepL [cc0_stg0_0, cc0_stg0_1, cc0_stg1_0, cc0_stg1_1, cc2_stg0_0, cc2_stg0_1, cc2_stg1_0, cc2_stg1_1, cc2_stg2_0, cc2_stg2_1]
    fun b => iprop(∃ f : Buf (Elt F) ((c : Thread nD τ).loc b), ((c : Thread nD τ).loc b) ↦{fullShare} f)

theorem rest1 (c : Dev nD) :
    (Pipeline.scopedRest (Ix := Unit) (Name := ℕ) (U := UU) (Lvl := ℕ) (Val := Elt F) spec1 c : sProp 𝕄)
      = iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f) ∗ spare c) :=
  Pipeline.scopedRest_eq_of_list spec1 c [cc1_scratch0, cc1_scratch1, cc0_stg0_0, cc0_stg0_1, cc0_stg1_0, cc0_stg1_1, cc2_stg0_0, cc2_stg0_1,
    cc2_stg1_0, cc2_stg1_1, cc2_stg2_0, cc2_stg2_1] (by decide) (by decide)

/-- The accumulator before point `t`: of no account where it is started over. -/
def acc (c : Dev nD) (t : ℕ) : sProp 𝕄 :=
  iprop(∃ a₀ : S1024x512.Idx → Elt F .f32, ⌜t % 4 ≠ 0 → a₀ = aAt (XA V) (XB V) c (t - 1)⌝ ∗ owns (c : Thread nD τ) (Memref.whole cc1_scratch1) fullShare a₀)

/-- What the core holds before point `t`, beside the windows. -/
def inv1 (c : Dev nD) (t : ℕ) : sProp 𝕄 :=
  iprop(∃ κ, known (sent V) κ c ∗ core (XA V) (XB V) c t ∗ acc V c t ∗ spare c ∗ ∃ r, prngReg c r)

/-- The fused region: each point leaves the two operands' blocks as read and adds its product to the output block. -/
def dat1 (c : Dev nD) : Dat τ (Elt F) Unit ℕ UU ℕ cfg1 c where
  A w := V c (Proc.devRef .tc (Pipeline.arrRef spec1 w))
  after
    | 0 => fun t => XA V c t.val
    | 1 => fun t => XB V c t.val
    | 2 => fun t => pAt (XA V) (XB V) c t.val
    | ⟨_ + 3, h⟩ => absurd h (Nat.not_lt.2 (Nat.le_add_left _ _))
  Φ t := inv1 V c t.val
  q _ := fullShare
  owed t := due c t.val

theorem before1_0 (c : Dev nD) (t : Fin cfg1.N) (d) : (dat1 V c).before 0 t d = XA V c t.val := by
  rw [(dat1 V c).before_fetched 0 t (fetch1_0 t) d]
  unfold XA; rw [pt_val]; rfl
theorem before1_1 (c : Dev nD) (t : Fin cfg1.N) (d) : (dat1 V c).before 1 t d = XB V c t.val := by
  rw [(dat1 V c).before_fetched 1 t (fetch1_1 t) d]
  unfold XB; rw [pt_val]; rfl
theorem before1_2 (c : Dev nD) (t : Fin cfg1.N) (ht : t.val % 4 ≠ 0) (d) : (dat1 V c).before 2 t d = pAt (XA V) (XB V) c (t.val - 1) := by
  refine (dat1 V c).before_out_kept 2 rfl t (fun h => ht (by rw [h])) ?_ (fun _ => rfl) (fun _ _ => rfl) d
  rw [← Bool.not_eq_true, flush1_2]
  dsimp only; omega

/-- The fused region's body leaves what its data say, at every point. -/
theorem body1 (c : Dev nD) : BodyObligation (dat1 (F := F) V c) defs₀ 𝒱₀ () Set.univ := fun t => by
  rw [bigSep_W1, bigSep_W1]
  rw [show (dat1 V c).Φ t.castSucc = inv1 V c t.val from rfl, show (dat1 V c).Φ t.succ = inv1 V c (t.val + 1) from rfl]
  simp only [before1_0, before1_1]
  unfold inv1 acc
  iintro ⟨⟨%κ, #HK, HC, ⟨%a₀, %ha, HA⟩, HS, HP⟩, HO, ⟨%d0, H0⟩, ⟨%d1, H1⟩, ⟨%d2, H2⟩⟩
  ihave HO := (owesAt_elim (dat1 V c) t.castSucc (due c t.val) rfl) $$ HO
  iapply (wp_wand Idealize.ShloMosaic.frame (wpE (defs₀ (F := F)) 𝒱₀ (c : Thread nD τ) none) Set.univ) $$ [HC HA HO H0 H1 H2]
  · iapply (body_run (XA V) (XB V) κ c t (M2 := st1_0 t) (h2 := hstage1_0 ((cfg1.slots t 0).cast nbuf1_0)) (M3 := st1_1 t)
      (h3 := hstage1_1 ((cfg1.slots t 1).cast nbuf1_1)) (M4 := st1_2 t) (h4 := hstage1_2 ((cfg1.slots t 2).cast nbuf1_2))
      (M7 := Memref.whole cc1_scratch1) (p₀ := (dat1 V c).before 2 t d2) (a₀ := a₀) (fun h => before1_2 V c t h d2) ha)
    isplitr; · iexact HK
    isplitl [HO]; · iexact HO
    isplitl [HC]; · iexact HC
    isplitl [H0]; · iexact H0
    isplitl [H1]; · iexact H1
    isplitl [H2]; · iexact H2
    iexact HA
  iintro %_ ⟨HO, HC, H0, H1, H2, HA⟩
  isplitl [HC HA HS HP]
  · iexists κ
    isplitr; · iexact HK
    isplitl [HC]; · iexact HC
    isplitl [HA]
    · iexists aAt (XA V) (XB V) c t.val
      isplitr; · ipureintro; intro _; rw [Nat.add_sub_cancel]
      iexact HA
    isplitl [HS]; · iexact HS
    iexact HP
  isplitl [HO]; · iapply (owesAt_intro (dat1 V c) t.succ (due c (t.val + 1)) rfl rfl); iexact HO
  dsimp only [dat1]
  isplitl [H0]; · iexact H0
  isplitl [H1]; · iexact H1
  iexact H2

end Cert.KernelIdeal.Talk

end
-- ==== Proof.Ideal.Levels.lean ====
/-
  The waits of the pipelines' own copies come below every wait of the talk: their semaphores are at level 0, whatever a core
  owes is above it.
-/
module

public import proofs.«01_k».proof.Proof.Ideal.Fused

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem bDue_pos {c : Dev nD} {g : GSem nD τ sig} {u : Unit} (h : 0 < bDue c g u) : g = barC (xp c) ∨ g = barC (yp c) := by
  by_contra hn
  rw [not_or] at hn
  refine absurd h (Nat.not_lt.mpr (Nat.le_of_eq ?_))
  unfold bDue
  rw [Pi.add_apply, Finsupp.add_apply, tallyAt_apply, tallyAt_apply, if_neg (fun h => hn.1 h.1), if_neg (fun h => hn.2 h.1)]

/-- What is owed of the copies is above level 0. -/
theorem copies_above (c : Dev nD) (Sx Sy : Finset (Fin 8)) (g : GSem nD τ sig) (u : Unit) (h : 0 < (xDue c Sx + yDue c Sy) g u) :
    u ∈ L g ∧ 0 < lv g u := by
  simp only [Pi.add_apply, Finsupp.add_apply] at h
  rcases (by omega : 0 < xDue c Sx g u ∨ 0 < yDue c Sy g u) with h | h
  · obtain ⟨m, hm, rfl⟩ := xDue_pos h
    exact ⟨by rw [L_tc]; exact Finset.mem_singleton_self _, by rw [lv_xr]; omega⟩
  · obtain ⟨m, hm, rfl⟩ := yDue_pos h
    exact ⟨by rw [L_tc]; exact Finset.mem_singleton_self _, by rw [lv_yr]; omega⟩

/-- What is owed when the program starts is above level 0. -/
theorem all_above (c : Dev nD) (g : GSem nD τ sig) (u : Unit) (h : 0 < O₀ c g u) : u ∈ L g ∧ 0 < lv g u := by
  have e : O₀ c g u = (xDue c Finset.univ + yDue c Finset.univ) g u + bDue c g u := rfl
  rw [e] at h
  rcases (by omega : 0 < (xDue c Finset.univ + yDue c Finset.univ) g u ∨ 0 < bDue c g u) with h | h
  · exact copies_above c _ _ g u h
  · rcases bDue_pos h with rfl | rfl
    · exact ⟨by rw [L_tc]; exact Finset.mem_singleton_self _, by rw [lv_bar]; omega⟩
    · exact ⟨by rw [L_tc]; exact Finset.mem_singleton_self _, by rw [lv_bar]; omega⟩

/-- What is owed before any point of the fused region is above level 0. -/
theorem due_above (c : Dev nD) (t : ℕ) (g : GSem nD τ sig) (u : Unit) (h : 0 < due c t g u) : u ∈ L g ∧ 0 < lv g u := by
  unfold due at h
  split at h
  · exact all_above c g u h
  split at h
  · exact copies_above c _ _ g u h
  · exact absurd h (Nat.lt_irrefl 0)

theorem stage_low0 : ∀ (w : Fin cfg0.W) (s : Fin (cfg0.win w).nbuf), lvK (kind (.dma ((cfg0.win w).sem s))) ≤ 0 := by decide
theorem stage_low1 : ∀ (w : Fin cfg1.W) (s : Fin (cfg1.win w).nbuf), lvK (kind (.dma ((cfg1.win w).sem s))) ≤ 0 := by decide
theorem stage_low2 : ∀ (w : Fin cfg2.W) (s : Fin (cfg2.win w).nbuf), lvK (kind (.dma ((cfg2.win w).sem s))) ≤ 0 := by decide

end Cert.KernelIdeal.Talk

end
-- ==== Proof.Ideal.Records.lean ====
/-
  The three regions as the program runs them: what every unscoped buffer holds between them, and for each region the record
  of how it is entered and left.
-/
module

public import proofs.«01_k».proof.Proof.Ideal.Levels
public import Idealize.ShloMosaic.Lib.Pipeline.RegionTalk
public import Idealize.ShloMosaic.Lib.Pipeline.RegionArraysS

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

/-- Two families over one set are one family of pairs. -/
theorem all_of_both {ι : Type} [DecidableEq ι] {S : Finset ι} {Φ Ψ : ι → sProp 𝕄} :
    iprop(bigSep S Φ ∗ bigSep S Ψ) ⊢ bigSep S fun i => iprop(Φ i ∗ Ψ i) := Entails.of_eq (bigSep_sep' S Φ Ψ).symm
/-- The other way round. -/
theorem both_of_all {ι : Type} [DecidableEq ι] {S : Finset ι} {Φ Ψ : ι → sProp 𝕄} :
    (bigSep S fun i => iprop(Φ i ∗ Ψ i)) ⊢ iprop(bigSep S Φ ∗ bigSep S Ψ) := Entails.of_eq (bigSep_sep' S Φ Ψ)

/-! ## The buffers between the regions -/

section Region

variable {cfg : Pipeline.Cfg sig Λ₀} {c : Dev nD}

/-- A region with one output window changes that window's array alone. -/
theorem afterRegion_one (dat : Dat τ (Elt F) Unit ℕ UU ℕ cfg c) (V : Valuation τ sig (Elt F)) (hinj : Function.Injective (Pipeline.arrRef cfg.spec))
    (hA : ∀ w, dat.A w = V (Proc.devRef .tc (Pipeline.arrRef cfg.spec w))) (w₀ : Fin cfg.W) (hw : ∀ w, w ≠ w₀ → (cfg.win w).isOut = false) :
    Pipeline.afterRegion dat V = Function.update V (Proc.devRef .tc (Pipeline.arrRef cfg.spec w₀)) (dat.arrAt w₀ cfg.N) := by
  funext b
  by_cases h : ∃ w, b = Proc.devRef .tc (Pipeline.arrRef cfg.spec w)
  · obtain ⟨w, rfl⟩ := h
    rw [Pipeline.afterRegion_arr dat V hinj w]
    by_cases e : w = w₀
    · subst e; rw [Function.update_self]
    · rw [Function.update_of_ne (fun h => e (hinj (Proc.devRef_injective _ h))), dat.arrAt_in w (hw w e), hA]
  · rw [Function.update_of_ne (fun e => h ⟨w₀, e⟩)]
    unfold Pipeline.afterRegion; rw [dif_neg h]

end Region

variable (m : (ℓ : Loc nD τ sig) → Buf (Elt F) ℓ)

/-- Every unscoped buffer after the first region, which writes the flattened operand. -/
def W2 (c : Dev nD) : Valuation τ sig (Elt F) := Function.update (V1 m c) main_v2 ((dat0 (V1 m) c).arrAt 1 cfg0.N)
/-- After the fused region, which writes the own partial product and receives the other. -/
def W3 (c : Dev nD) : Valuation τ sig (Elt F) :=
  Function.update (Function.update (W2 m c) main_v3_0 ((dat1 (W2 m) c).arrAt 2 cfg1.N)) main_v3_1 (recvd (sent (W2 m)) c)
/-- After the last region, which writes the sum. -/
def W4 (c : Dev nD) : Valuation τ sig (Elt F) := Function.update (W3 m c) main_v4 ((dat2 (W3 m) c).arrAt 2 cfg2.N)

/-- What each region leaves, as the program's list of items asks for it. -/
def outs : Outs (F := F) := fun n r c => if n = 2 then W2 m c r else if n = 3 then W3 m c r else W4 m c r

theorem V2_eq (c : Dev nD) : V2 m (outs m) c = W2 m c := by
  show Function.update (V1 m c) (Proc.devRef .tc main_v2) (W2 m c (Proc.devRef .tc main_v2)) = W2 m c
  unfold W2; rw [Function.update_self]
theorem V3_eq (c : Dev nD) : V3 m (outs m) c = W3 m c := by
  show Function.update (Function.update (V2 m (outs m) c) (Proc.devRef .tc main_v3_0) (W3 m c (Proc.devRef .tc main_v3_0))) (Proc.devRef .tc main_v3_1)
    (W3 m c (Proc.devRef .tc main_v3_1)) = W3 m c
  have hne : (Proc.devRef .tc main_v3_0 : DevRef τ sig) ≠ Proc.devRef .tc main_v3_1 := by decide
  rw [V2_eq]
  unfold W3; rw [Function.update_self, Function.update_of_ne hne, Function.update_self]
theorem V4_eq (c : Dev nD) : V4 m (outs m) c = W4 m c := by
  show Function.update (V3 m (outs m) c) (Proc.devRef .tc main_v4) (W4 m c (Proc.devRef .tc main_v4)) = W4 m c
  rw [V3_eq]
  unfold W4; rw [Function.update_self]

/-- The regions' data. -/
def pdats : (p : Fin 3) → (c : Dev nD) → Dat τ (Elt F) Unit ℕ UU ℕ (cfgs p) c
  | 0 => dat0 (V1 m)
  | 1 => dat1 (W2 m)
  | 2 => dat2 (W3 m)

/-! ## What rides beside the buffers -/

variable (stg : Dev nD → Fin 8 → S1024x512.Idx → Elt F .bf16)

/-- What a device is given at launch for the talk: the rights to open its copy cells, the tokens of what it pays, its place at
    its barrier cell, and the credits of what is owed to it. -/
def kept (c : Dev nD) : sProp 𝕄 :=
  iprop((bigSep Finset.univ fun k : Fin 4 × Fin 8 => openTok ER (dC k.1 k.2 c))
    ∗ (dutyTok ER (barC (xp c)) 0 true ∗ dutyTok ER (barC (yp c)) 0 false ∗ atPos ER (barC c) 0 ∅ 0 ∗ cred (tallyAt (barC c) () 2))
    ∗ (bigSep Finset.univ fun m : Fin 8 => iprop(dutyTok ER (dC 0 m c) 0 true ∗ dutyTok ER (dC 1 m (xp c)) 0 true))
    ∗ (bigSep Finset.univ fun m : Fin 8 => iprop(cred (tallyAt (dC 1 m c) () NB) ∗ dutyTok ER (dC 2 m c) 0 true ∗ dutyTok ER (dC 3 m (yp c)) 0 true))
    ∗ bigSep Finset.univ fun m : Fin 8 => cred (tallyAt (dC 3 m c) () NB))
/-- With the records that every device shares. -/
def talk (c : Dev nD) : sProp 𝕄 := iprop(∃ κ, invs stg κ ∗ kept c)

/-- What it holds once its copy cells are open. -/
def opened (c : Dev nD) : sProp 𝕄 :=
  iprop((dutyTok ER (barC (xp c)) 0 true ∗ dutyTok ER (barC (yp c)) 0 false ∗ atPos ER (barC c) 0 ∅ 0 ∗ cred (tallyAt (barC c) () 2))
    ∗ (bigSep Finset.univ fun m : Fin 8 => iprop(dutyTok ER (dC 0 m c) 0 true ∗ dutyTok ER (dC 1 m (xp c)) 0 true))
    ∗ (bigSep Finset.univ fun m : Fin 8 => iprop(cred (tallyAt (dC 1 m c) () NB) ∗ atPos ER (dC 1 m c) 0 ∅ 0 ∗ dutyTok ER (dC 2 m c) 0 true ∗ dutyTok ER (dC 3 m (yp c)) 0 true))
    ∗ bigSep Finset.univ (zs c))
/-- What enters the fused region's invariant, and what it leaves. -/
def talkIn (c : Dev nD) : sProp 𝕄 := iprop(∃ κ, known stg κ c ∗ opened c)
def talkOut (c : Dev nD) : sProp 𝕄 := iprop(∃ κ, known stg κ c ∗ atPos ER (barC c) 1 ∅ 0)

/-- The copy cells open on the counters that the region brings. -/
theorem talk_open (c : Dev nD) : iprop(talk stg c ∗ Pipeline.ownSems0 osem1 c ∗ levAts L lv) ⊢ (|={Set.univ}=> talkIn stg c : sProp 𝕄) := by
  have hop := Rounds.cells_open ER (Rd stg) (Finset.univ : Finset (Fin 4 × Fin 8)) (fun k => dC k.1 k.2 c) (Es := Set.univ)
  unfold talk talkIn kept Pipeline.ownSems0
  iintro ⟨⟨%κ, #HI, Ho, Hb, Hx, Hy, Hz⟩, Hs, -⟩
  imod (hop (fun k => κ (dC k.1 k.2 c)) (fun _ _ => Set.mem_univ _)) $$ [Ho Hs] with H
  · isplitl [Ho]
    · iapply all_of_both
      isplitr
      · iapply (bigSep_intro_persistent (S := Finset.univ) (fun k _ => inv_copy stg κ c k.1 k.2)); iexact HI
      iexact Ho
    iexact Hs
  ihave H := both_of_all $$ H
  icases H with ⟨Hat, #Hr⟩
  ihave Hat := (Entails.of_eq (four_kinds (fun k : Fin 4 × Fin 8 => (atPos ER (dC k.1 k.2 c) 0 ∅ 0 : sProp 𝕄)))) $$ Hat
  icases Hat with ⟨A0, A1, A2, A3⟩
  imodintro
  iexists κ
  isplitr
  · unfold known
    isplitr; · iexact HI
    iexact Hr
  unfold opened
  isplitl [Hb]; · iexact Hb
  isplitl [Hx]; · iexact Hx
  isplitl [Hy A1]
  · ihave Hy := both_of_all $$ Hy
    icases Hy with ⟨Hc, Hd⟩
    iapply all_of_both; isplitl [Hc]; · iexact Hc
    iapply all_of_both; isplitl [A1]; · iexact A1
    iexact Hd
  unfold zs
  iapply all_of_both; isplitl [A0]; · iexact A0
  iapply all_of_both; isplitl [A2]; · iexact A2
  iapply all_of_both; isplitl [A3]; · iexact A3
  iexact Hz

/-- The barrier cell, past its round, is closed. -/
theorem talk_close (c : Dev nD) : talkOut stg c ⊢ (|={Set.univ}=> semVal (barC c) 0 : sProp 𝕄) := by
  unfold talkOut
  iintro ⟨%κ, #HK, Hat⟩
  iapply (Rounds.cell_close ER (Rd stg) (Set.mem_univ (κ (barC c))) id (duties_later stg (barC c)))
  isplitr; · iapply (known_inv_bar stg κ c c); iexact HK
  iexact Hat

/-- With its buffers, the device is ready for the first grid point. -/
theorem ready (c : Dev nD) (f : Buf (Elt F) ((c : Thread nD τ).loc main_v3_1)) (g : Buf (Elt F) ((c : Thread nD τ).loc cc1_scratch0)) :
    iprop((((c : Thread nD τ).loc main_v3_1) ↦{fullShare} f) ∗ (((c : Thread nD τ).loc cc1_scratch0) ↦{fullShare} g) ∗ opened c) ⊢ (start c : sProp 𝕄) := by
  unfold opened start
  iintro ⟨Hp, Hs, Hb, Hx, Hy, Hz⟩
  ihave Hp := (po_split c f) $$ Hp
  icases Hp with ⟨Hp, Hq⟩
  ihave Hs := (st_split c g) $$ Hs
  isplitl [Hb]; · iexact Hb
  isplitl [Hp]; · iexact Hp
  isplitl [Hq]; · iexact Hq
  isplitl [Hx Hs]
  · ihave Hx := both_of_all $$ Hx
    icases Hx with ⟨H0, H1⟩
    iapply all_of_both; isplitl [H0]; · iexact H0
    iapply all_of_both; isplitl [H1]; · iexact H1
    iexact Hs
  isplitl [Hy]; · iexact Hy
  iexact Hz

end Cert.KernelIdeal.Talk

end
-- ==== Proof.Ideal.Regions.lean ====
/-
  The three regions' records: each is entered from the unscoped buffers as the one before left them, and leaves them with its
  own outputs written.
-/
module

public import proofs.«01_k».proof.Proof.Ideal.Records

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1
theorem kit2 : Pipeline.PLaunchFacts (nD := nD) (τ := τ) (pcfgs (F := F)) 2 where
  cellOf_inj a := by rw [Subsingleton.elim a adm]; exact cellOf_inj
  win := winFacts2
  pre := Pipeline.PreFacts.none _
  block_pos := block_pos2
  arr_whole := arr_whole2
  stage_whole := stage_whole2

/-- What is sent in the run. -/
abbrev msg : Dev nD → Fin 8 → S1024x512.Idx → Elt F .bf16 := sent (W2 m)

/-- What rides beside the buffers until the fused region. -/
def ridesA (c : Dev nD) : sProp 𝕄 := iprop(talk (msg m) c ∗ ∃ r, prngReg c r)
/-- What rides beside them after it. -/
def ridesB (c : Dev nD) : sProp 𝕄 := iprop(semVal (barC c) 0 ∗ ∃ r, prngReg c r)

/-- The program's rest state before each region and at the end. -/
def rest : Fin 4 → Dev nD → sProp 𝕄
  | 0 => fun c => iprop(ridesA m c ∗ ∃ W, owes (c : Thread nD τ) (O₀ c) W)
  | 1 => fun c => iprop(ridesA m c ∗ ∃ W, owes (c : Thread nD τ) (O₀ c) W)
  | 2 => fun c => iprop(ridesB c ∗ ∃ W, owes (c : Thread nD τ) (0 : CellTallies nD τ sig Unit) W)
  | 3 => fun c => iprop(ridesB c ∗ ∃ W, owes (c : Thread nD τ) (0 : CellTallies nD τ sig Unit) W)

theorem drop_emp {P : sProp 𝕄} : iprop(P ∗ emp) ⊢ P := by iintro ⟨H, -⟩; iexact H
theorem add_emp {P : sProp 𝕄} : P ⊢ iprop(P ∗ emp) := by
  iintro H
  isplitl [H]; · iexact H
  iempintro

/-! ## The first region -/

set_option backward.isDefEq.respectTransparency.types false in
def region0 : Pipeline.RegionSeg (pcfgs (F := F)) adm (pdats m) () defs₀ 𝒱₀ L lv 0 :=
  Pipeline.RegionSeg.ofHeldIn (pcfgs (F := F)) adm (pdats m) () defs₀ 𝒱₀ L lv 0 O₀ (Pipeline.ucRefs τ sig) (fun _ => iprop(emp)) (fun _ => iprop(emp)) kit0 rfl
    (fun c => (body0 (V1 m) c).loose) (fun _ _ => rfl) (fun _ => rfl) (fun c w => by unfold Dat.share; exact ite_self _)
    (fun c => (drop_emp : iprop(Pipeline.scopedRest spec0 c ∗ emp) ⊢ (Pipeline.scopedRest spec0 c : sProp 𝕄)))
    (fun c => (add_emp : Pipeline.scopedRest spec0 c ⊢ (iprop(Pipeline.scopedRest spec0 c ∗ emp) : sProp 𝕄)))
    (fun _ => 0)
    ⟨fun c w s => by rw [L_tc]; exact Finset.mem_singleton_self _, fun c w s => stage_low0 w s, fun c g i h => all_above c g i h⟩
    (ridesA m) (V1 m) (fun _ _ => rfl)

theorem region0_in (c : Dev nD) :
    iprop(StableHlo.held (c : Thread nD τ) (Pipeline.ucRefs τ sig) (V1 m c) ∗ rest m 0 c) ⊢ (region0 m).pre c := by
  show _ ⊢ iprop(StableHlo.held (c.tc : Thread nD τ) (Pipeline.arrRefs (τ := τ) spec0) (V1 m c) ∗ emp
    ∗ (StableHlo.held (c.tc : Thread nD τ) (Pipeline.ucRefs τ sig \ Pipeline.arrRefs (τ := τ) spec0) (V1 m c) ∗ ridesA m c) ∗ ∃ Wd, owes (c : Thread nD τ) (O₀ c) Wd)
  rw [StableHlo.held_sub_split (c.tc : Thread nD τ) (Pipeline.arrRefs_sub_ucRefs spec0 winFacts0.arr_unscoped) (V1 m c)]
  unfold rest
  iintro ⟨⟨Ha, Hu⟩, HR, HO⟩
  isplitl [Ha]; · iexact Ha
  isplitr; · iempintro
  isplitl [Hu HR]
  · isplitl [Hu]; · iexact Hu
    iexact HR
  iexact HO

theorem region0_out (c : Dev nD) :
    (region0 m).post c ⊢ iprop(StableHlo.held (c : Thread nD τ) (Pipeline.ucRefs τ sig) (V2 m (outs m) c) ∗ rest m 1 c) := by
  show iprop(StableHlo.held (c.tc : Thread nD τ) (Pipeline.arrRefs (τ := τ) spec0) (Pipeline.afterRegion (dat0 (V1 m) c) (V1 m c)) ∗ emp
    ∗ (StableHlo.held (c.tc : Thread nD τ) (Pipeline.ucRefs τ sig \ Pipeline.arrRefs (τ := τ) spec0) (V1 m c) ∗ ridesA m c) ∗ ∃ Wd, owes (c : Thread nD τ) (O₀ c) Wd) ⊢ _
  rw [← StableHlo.held_congr (c.tc : Thread nD τ) (S := Pipeline.ucRefs τ sig \ Pipeline.arrRefs (τ := τ) spec0)
    (V := Pipeline.afterRegion (dat0 (V1 m) c) (V1 m c)) (V' := V1 m c) (Pipeline.afterRegion_off (dat0 (V1 m) c) (V1 m c) _)]
  have e : Pipeline.afterRegion (dat0 (V1 m) c) (V1 m c) = V2 m (outs m) c := by
    rw [V2_eq]
    exact afterRegion_one (dat0 (V1 m) c) (V1 m c) winFacts0.arr_inj (fun _ => rfl) 1 (by decide)
  rw [e, StableHlo.held_sub_split (c.tc : Thread nD τ) (Pipeline.arrRefs_sub_ucRefs spec0 winFacts0.arr_unscoped) (V2 m (outs m) c)]
  unfold rest
  iintro ⟨Ha, -, ⟨Hu, HR⟩, HO⟩
  isplitl [Ha Hu]
  · isplitl [Ha]; · iexact Ha
    iexact Hu
  isplitl [HR]; · iexact HR
  iexact HO

/-! ## The last region -/

set_option backward.isDefEq.respectTransparency.types false in
def region2 : Pipeline.RegionSeg (pcfgs (F := F)) adm (pdats m) () defs₀ 𝒱₀ L lv 2 :=
  Pipeline.RegionSeg.ofHeldIn (pcfgs (F := F)) adm (pdats m) () defs₀ 𝒱₀ L lv 2 (fun _ => 0) (Pipeline.ucRefs τ sig) (fun _ => iprop(emp)) (fun _ => iprop(emp)) kit2 rfl
    (fun c => (body2 (W3 m) c).loose) (fun _ _ => rfl) (fun _ => rfl) (fun c w => by unfold Dat.share; exact ite_self _)
    (fun c => (drop_emp : iprop(Pipeline.scopedRest spec2 c ∗ emp) ⊢ (Pipeline.scopedRest spec2 c : sProp 𝕄)))
    (fun c => (add_emp : Pipeline.scopedRest spec2 c ⊢ (iprop(Pipeline.scopedRest spec2 c ∗ emp) : sProp 𝕄)))
    (fun _ => 0)
    ⟨fun c w s => by rw [L_tc]; exact Finset.mem_singleton_self _, fun c w s => stage_low2 w s, fun c g i h => absurd h (Nat.lt_irrefl 0)⟩
    ridesB (W3 m) (fun _ _ => rfl)

theorem region2_in (c : Dev nD) :
    iprop(StableHlo.held (c : Thread nD τ) (Pipeline.ucRefs τ sig) (V3 m (outs m) c) ∗ rest m 2 c) ⊢ (region2 m).pre c := by
  show _ ⊢ iprop(StableHlo.held (c.tc : Thread nD τ) (Pipeline.arrRefs (τ := τ) spec2) (W3 m c) ∗ emp
    ∗ (StableHlo.held (c.tc : Thread nD τ) (Pipeline.ucRefs τ sig \ Pipeline.arrRefs (τ := τ) spec2) (W3 m c) ∗ ridesB c) ∗ ∃ Wd, owes (c : Thread nD τ) (0 : CellTallies nD τ sig Unit) Wd)
  rw [V3_eq, StableHlo.held_sub_split (c.tc : Thread nD τ) (Pipeline.arrRefs_sub_ucRefs spec2 winFacts2.arr_unscoped) (W3 m c)]
  unfold rest
  iintro ⟨⟨Ha, Hu⟩, HR, HO⟩
  isplitl [Ha]; · iexact Ha
  isplitr; · iempintro
  isplitl [Hu HR]
  · isplitl [Hu]; · iexact Hu
    iexact HR
  iexact HO

theorem region2_out (c : Dev nD) :
    (region2 m).post c ⊢ iprop(StableHlo.held (c : Thread nD τ) (Pipeline.ucRefs τ sig) (V4 m (outs m) c) ∗ rest m 3 c) := by
  show iprop(StableHlo.held (c.tc : Thread nD τ) (Pipeline.arrRefs (τ := τ) spec2) (Pipeline.afterRegion (dat2 (W3 m) c) (W3 m c)) ∗ emp
    ∗ (StableHlo.held (c.tc : Thread nD τ) (Pipeline.ucRefs τ sig \ Pipeline.arrRefs (τ := τ) spec2) (W3 m c) ∗ ridesB c) ∗ ∃ Wd, owes (c : Thread nD τ) (0 : CellTallies nD τ sig Unit) Wd) ⊢ _
  rw [← StableHlo.held_congr (c.tc : Thread nD τ) (S := Pipeline.ucRefs τ sig \ Pipeline.arrRefs (τ := τ) spec2)
    (V := Pipeline.afterRegion (dat2 (W3 m) c) (W3 m c)) (V' := W3 m c) (Pipeline.afterRegion_off (dat2 (W3 m) c) (W3 m c) _)]
  have e : Pipeline.afterRegion (dat2 (W3 m) c) (W3 m c) = V4 m (outs m) c := by
    rw [V4_eq]
    exact afterRegion_one (dat2 (W3 m) c) (W3 m c) winFacts2.arr_inj (fun _ => rfl) 2 (by decide)
  rw [e, StableHlo.held_sub_split (c.tc : Thread nD τ) (Pipeline.arrRefs_sub_ucRefs spec2 winFacts2.arr_unscoped) (V4 m (outs m) c)]
  unfold rest
  iintro ⟨Ha, -, ⟨Hu, HR⟩, HO⟩
  isplitl [Ha Hu]
  · isplitl [Ha]; · iexact Ha
    iexact Hu
  isplitl [HR]; · iexact HR
  iexact HO

/-! ## The fused region -/

/-- The one unscoped buffer that the fused region's body reaches besides its windows. -/
def inner : Finset (DevRef τ sig) := {Proc.devRef .tc main_v3_1}
/-- The unscoped buffers that are no window of the fused region. -/
def outer : Finset (DevRef τ sig) := Pipeline.ucRefs τ sig \ Pipeline.arrRefs (τ := τ) spec1

theorem held_inner (c : Dev nD) (W : Valuation τ sig (Elt F)) :
    (StableHlo.held (c.tc : Thread nD τ) inner W : sProp 𝕄) = (((c : Thread nD τ).loc main_v3_1) ↦{fullShare} W (Proc.devRef .tc main_v3_1)) := by
  unfold StableHlo.held inner; rw [bigSep_singleton]

theorem W3_sum (c : Dev nD) : W3 m c (Proc.devRef .tc main_v3_1) = recvd (msg m) c := by
  unfold W3; rw [Function.update_self]

theorem fused_in (c : Dev nD) :
    iprop(Pipeline.scopedRest spec1 c ∗ (∃ r, prngReg c r) ∗ StableHlo.held (c.tc : Thread nD τ) inner (W2 m c) ∗ talkIn (msg m) c)
      ⊢ (inv1 (W2 m) c 0 : sProp 𝕄) := by
  rw [held_inner, rest1]
  unfold talkIn inv1 core acc
  rw [if_pos rfl]
  iintro ⟨⟨⟨%f, Hst⟩, ⟨%g, Hac⟩, Hsp⟩, Hp, Hv, %κ, #HK, HT⟩
  iexists κ
  isplitr; · iexact HK
  isplitl [Hst Hv HT]
  · iapply (ready c (W2 m c (Proc.devRef .tc main_v3_1)) f)
    isplitl [Hv]; · iexact Hv
    isplitl [Hst]; · iexact Hst
    iexact HT
  isplitl [Hac]
  · iexists g
    isplitr; · ipureintro; intro h; exact absurd rfl h
    iapply (Entails.of_eq (owns_whole c cc1_scratch1 fullShare g).symm); iexact Hac
  isplitl [Hsp]; · iexact Hsp
  iexact Hp

theorem fused_out (c : Dev nD) :
    (inv1 (W2 m) c 32 : sProp 𝕄)
      ⊢ iprop(Pipeline.scopedRest spec1 c ∗ (∃ r, prngReg c r) ∗ StableHlo.held (c.tc : Thread nD τ) inner (W3 m c) ∗ Pipeline.ownSems0 osem1 c ∗ talkOut (msg m) c) := by
  rw [held_inner, rest1, W3_sum]
  unfold talkOut inv1 core acc fin' Pipeline.ownSems0
  rw [if_neg (by decide), if_neg (by decide)]
  iintro ⟨%κ, #HK, ⟨Hs, Hat, H0, H2, H3⟩, ⟨%a, -, Ha⟩, Hsp, Hp⟩
  isplitl [H0 Ha Hsp]
  · isplitl [H0]; · iapply (st_join (msg m) c); iexact H0
    isplitl [Ha]
    · iexists a; iapply (Entails.of_eq (owns_whole c cc1_scratch1 fullShare a)); iexact Ha
    iexact Hsp
  isplitl [Hp]; · iexact Hp
  isplitl [H2 H3]
  · iapply (po_join (msg m) c)
    isplitl [H2]; · iexact H2
    iexact H3
  isplitl [Hs]; · iexact Hs
  iexists κ
  isplitr; · iexact HK
  iexact Hat

theorem W3_off (c : Dev nD) (b : DevRef τ sig) (hb : b ∈ outer \ inner) : W3 m c b = W2 m c b := by
  obtain ⟨h1, h2⟩ := Finset.mem_sdiff.mp hb
  unfold W3
  rw [Function.update_of_ne (fun h => h2 (Finset.mem_singleton.mpr h)), Function.update_of_ne (fun h => ?_)]
  subst h
  exact absurd h1 (by decide)

/-- The output window's array after the region; the inputs' are as before. -/
theorem W3_arr (c : Dev nD) (w : Fin cfg1.W) : (dat1 (W2 m) c).arrAt w cfg1.N = W3 m c (Proc.devRef .tc (Pipeline.arrRef spec1 w)) := by
  have h2 : (Proc.devRef .tc main_v2 : DevRef τ sig) ≠ Proc.devRef .tc main_v3_1 := by decide
  have h2' : (Proc.devRef .tc main_v2 : DevRef τ sig) ≠ Proc.devRef .tc main_v3_0 := by decide
  have h1 : (Proc.devRef .tc main_arg1 : DevRef τ sig) ≠ Proc.devRef .tc main_v3_1 := by decide
  have h1' : (Proc.devRef .tc main_arg1 : DevRef τ sig) ≠ Proc.devRef .tc main_v3_0 := by decide
  have h0 : (Proc.devRef .tc main_v3_0 : DevRef τ sig) ≠ Proc.devRef .tc main_v3_1 := by decide
  match w with
  | 0 =>
    rw [(dat1 (W2 m) c).arrAt_in 0 rfl]
    show W2 m c (Proc.devRef .tc main_v2) = W3 m c (Proc.devRef .tc main_v2)
    unfold W3; rw [Function.update_of_ne h2, Function.update_of_ne h2']
  | 1 =>
    rw [(dat1 (W2 m) c).arrAt_in 1 rfl]
    show W2 m c (Proc.devRef .tc main_arg1) = W3 m c (Proc.devRef .tc main_arg1)
    unfold W3; rw [Function.update_of_ne h1, Function.update_of_ne h1']
  | 2 =>
    show (dat1 (W2 m) c).arrAt 2 cfg1.N = W3 m c (Proc.devRef .tc main_v3_0)
    unfold W3; rw [Function.update_of_ne h0, Function.update_self]

theorem owed1_first (c : Dev nD) : (dat1 (W2 m) c).owed 0 = 0 + O₀ c := by
  rw [zero_add]; show due c 0 = O₀ c; unfold due; rw [if_pos rfl]
theorem owed1_last (c : Dev nD) : (dat1 (W2 m) c).owed (Fin.last cfg1.N) = 0 := by
  show due c (Fin.last cfg1.N).val = 0
  rw [show (Fin.last cfg1.N).val = 32 from N_1]
  unfold due; rw [if_neg (by decide), if_neg (by decide)]

set_option backward.isDefEq.respectTransparency.types false in
def region1 : Pipeline.RegionSeg (pcfgs (F := F)) adm (pdats m) () defs₀ 𝒱₀ L lv 1 :=
  Pipeline.RegionSeg.ofTalk (pcfgs (F := F)) adm (pdats m) () defs₀ 𝒱₀ L lv 1 osem1 (by decide : Pipeline.OwnSemFacts spec1 osem1)
    inner outer (by decide) kit1 rfl (fun c => (body1 (W2 m) c).loose)
    (fun _ => 0) O₀ (owed1_first m) (owed1_last m) (fun _ => rfl) (fun c w => by unfold Dat.share; exact ite_self _)
    (W2 m) (W3 m) (W3_off m)
    (talk (msg m)) (fun c => semVal (barC c) 0) (talkIn (msg m)) (talkOut (msg m)) (talk_open (msg m)) (fused_in m)
    (fun c => by
      show inv1 (W2 m) c (Fin.last cfg1.N).val ⊢ _
      rw [show (Fin.last cfg1.N).val = 32 from N_1]; exact fused_out m c)
    (talk_close (msg m))
    (fun _ => 0)
    ⟨fun c w s => by rw [L_tc]; exact Finset.mem_singleton_self _, fun c w s => stage_low1 w s, fun c t g i h => due_above c t.val g i h⟩
    (fun _ => iprop(emp))
    (fun _ _ => rfl) (W3_arr m)

theorem region1_in (c : Dev nD) :
    iprop(StableHlo.held (c : Thread nD τ) (Pipeline.ucRefs τ sig) (V2 m (outs m) c) ∗ rest m 1 c) ⊢ (region1 m).pre c := by
  show _ ⊢ iprop(StableHlo.held (c.tc : Thread nD τ) (Pipeline.arrRefs (τ := τ) spec1) (W2 m c) ∗ (∃ r, prngReg c r)
    ∗ (StableHlo.held (c.tc : Thread nD τ) outer (W2 m c) ∗ emp) ∗ talk (msg m) c ∗ ∃ Wd, owes (c : Thread nD τ) (0 + O₀ c) Wd)
  rw [V2_eq, zero_add, StableHlo.held_sub_split (c.tc : Thread nD τ) (Pipeline.arrRefs_sub_ucRefs spec1 winFacts1.arr_unscoped) (W2 m c)]
  unfold rest ridesA outer
  iintro ⟨⟨Ha, Hu⟩, ⟨HT, Hp⟩, HO⟩
  isplitl [Ha]; · iexact Ha
  isplitl [Hp]; · iexact Hp
  isplitl [Hu]
  · isplitl [Hu]; · iexact Hu
    iempintro
  isplitl [HT]; · iexact HT
  iexact HO

theorem region1_out (c : Dev nD) :
    (region1 m).post c ⊢ iprop(StableHlo.held (c : Thread nD τ) (Pipeline.ucRefs τ sig) (V3 m (outs m) c) ∗ rest m 2 c) := by
  show iprop(StableHlo.held (c.tc : Thread nD τ) (Pipeline.arrRefs (τ := τ) spec1) (W3 m c) ∗ (∃ r, prngReg c r)
    ∗ (StableHlo.held (c.tc : Thread nD τ) outer (W3 m c) ∗ emp) ∗ semVal (barC c) 0 ∗ ∃ Wd, owes (c : Thread nD τ) (0 : CellTallies nD τ sig Unit) Wd) ⊢ _
  rw [V3_eq, StableHlo.held_sub_split (c.tc : Thread nD τ) (Pipeline.arrRefs_sub_ucRefs spec1 winFacts1.arr_unscoped) (W3 m c)]
  unfold rest ridesB outer
  iintro ⟨Ha, Hp, ⟨Hu, -⟩, Hb, HO⟩
  isplitl [Ha Hu]
  · isplitl [Ha]; · iexact Ha
    iexact Hu
  isplitl [Hb Hp]
  · isplitl [Hb]; · iexact Hb
    iexact Hp
  iexact HO

end Cert.KernelIdeal.Talk

end
-- ==== Proof.Ideal.Launch.lean ====
/-
  The launch: the schedule's tokens and the credits of what is owed are dealt to the devices that use them.
-/
module

public import proofs.«01_k».proof.Proof.Ideal.Regions

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem osem1_inj : Function.Injective osem1 := fun k k' h => by
  have h := congrArg kind h
  rw [kind_copy, kind_copy] at h
  injection h with h1 h2
  exact Prod.ext h1 h2
theorem osem1_ne_bar (k : Fin 4 × Fin 8) : osem1 k ≠ .reg barS := nofun

/-- A copy cell's indices, read off the cell. -/
theorem dC_inj {a a' : Fin 4} {i i' : Fin 8} {c c' : Dev nD} (h : dC a i c = dC a' i' c') : a = a' ∧ i = i' ∧ c = c' := by
  have h1 : (a, i) = (a', i') := osem1_inj (congrArg Prod.snd h)
  exact ⟨congrArg Prod.fst h1, congrArg Prod.snd h1, congrArg (fun g : GSem nD τ sig => g.1.1) h⟩
theorem barC_inj {c c' : Dev nD} (h : barC c = barC c') : c = c' := congrArg (fun g : GSem nD τ sig => g.1.1) h
theorem dC_ne_barC (a : Fin 4) (i : Fin 8) (c c' : Dev nD) : dC a i c ≠ barC c' := fun h => osem1_ne_bar (a, i) (congrArg Prod.snd h)

def barEmb : Dev nD ↪ GSem nD τ sig := ⟨fun c => barC c, fun _ _ h => barC_inj h⟩
def copyEmb : Dev nD × (Fin 4 × Fin 8) ↪ GSem nD τ sig := ⟨fun k => dC k.2.1 k.2.2 k.1, fun _ _ h => by
  obtain ⟨h1, h2, h3⟩ := dC_inj h
  exact Prod.ext h3 (Prod.ext h1 h2)⟩
abbrev barCells : Finset (GSem nD τ sig) := Finset.univ.map barEmb
abbrev copyCells : Finset (GSem nD τ sig) := Finset.univ.map copyEmb

theorem cells_apart : Disjoint (barCells : Finset (GSem nD τ sig)) copyCells := by
  rw [Finset.disjoint_left]
  rintro g h₁ h₂
  obtain ⟨c, -, rfl⟩ := Finset.mem_map.mp h₁
  obtain ⟨k, -, h⟩ := Finset.mem_map.mp h₂
  exact dC_ne_barC k.2.1 k.2.2 k.1 c h

/-- Every payment's token: two at each barrier cell, one at each copy cell. -/
def tokOf : Dev nD × (Bool ⊕ (Fin 4 × Fin 8)) → GSem nD τ sig × ℕ × Bool
  | (c, .inl d) => (barC c, 0, d)
  | (c, .inr k) => (dC k.1 k.2 c, 0, true)
theorem tokOf_inj : Function.Injective tokOf
  | (c, .inl d), (c', .inl d'), h => by
    rw [barC_inj (congrArg Prod.fst h), show d = d' from congrArg (fun x : GSem nD τ sig × ℕ × Bool => x.2.2) h]
  | (c, .inl d), (c', .inr k'), h => absurd (congrArg Prod.fst h).symm (dC_ne_barC _ _ _ _)
  | (c, .inr k), (c', .inl d'), h => absurd (congrArg Prod.fst h) (dC_ne_barC _ _ _ _)
  | (c, .inr k), (c', .inr k'), h => by
    obtain ⟨h1, h2, h3⟩ := dC_inj (congrArg Prod.fst h)
    rw [h3, show k = k' from Prod.ext h1 h2]
def allToks : Finset (GSem nD τ sig × ℕ × Bool) := Finset.univ.map ⟨tokOf, tokOf_inj⟩

/-- The launch's ghost state: the staging cells' and the schedule's. -/
def u₀ : UU :=
  (initOf (Pipeline.cells cfgs cellOf_inj) (Pipeline.launchToks cfgs cellOf_inj), launchOf barCells copyCells allToks)

/-- A resource all of which one device brings. -/
def broughtBy (c₀ : Dev nD) (X : sProp 𝕄) (c : Dev nD) : sProp 𝕄 := if c = c₀ then X else iprop(emp)
theorem brought (c₀ : Dev nD) (X : sProp 𝕄) : bigSep Finset.univ (broughtBy c₀ X) = X := by
  rw [bigSep_univ_at _ c₀, bigSep_congr (s := Finset.univ.erase c₀) (Ψ := fun _ => (BI.emp : sProp 𝕄))
      fun c hc => by unfold broughtBy; rw [if_neg (Finset.ne_of_mem_erase hc)]; rfl, BI.bigSep_emp_const]
  unfold broughtBy; rw [if_pos rfl]
  exact BI.equiv_iff.mp sep_emp
def brings : Dev nD → sProp 𝕄 := broughtBy 0 (BI.own (ER (launchOf barCells copyCells allToks)))

/-- The tokens of the payments into one device's cells. -/
def toksAt (c : Dev nD) : sProp 𝕄 :=
  iprop((dutyTok ER (barC c) 0 true ∗ dutyTok ER (barC c) 0 false)
    ∗ (bigSep Finset.univ fun i : Fin 8 => dutyTok ER (dC 0 i c) 0 true) ∗ (bigSep Finset.univ fun i : Fin 8 => dutyTok ER (dC 1 i c) 0 true)
    ∗ (bigSep Finset.univ fun i : Fin 8 => dutyTok ER (dC 2 i c) 0 true) ∗ bigSep Finset.univ fun i : Fin 8 => dutyTok ER (dC 3 i c) 0 true)
/-- The tokens of the payments one device makes. -/
def toksOf (c : Dev nD) : sProp 𝕄 :=
  iprop((dutyTok ER (barC (xp c)) 0 true ∗ dutyTok ER (barC (yp c)) 0 false)
    ∗ (bigSep Finset.univ fun i : Fin 8 => dutyTok ER (dC 0 i c) 0 true) ∗ (bigSep Finset.univ fun i : Fin 8 => dutyTok ER (dC 1 i (xp c)) 0 true)
    ∗ (bigSep Finset.univ fun i : Fin 8 => dutyTok ER (dC 2 i c) 0 true) ∗ bigSep Finset.univ fun i : Fin 8 => dutyTok ER (dC 3 i (yp c)) 0 true)

theorem both_bools (Φ : Bool → sProp 𝕄) : bigSep Finset.univ Φ = iprop(Φ true ∗ Φ false) := by
  rw [show (Finset.univ : Finset Bool) = {true, false} from rfl, bigSep_insert (by decide), bigSep_singleton]; rfl

theorem allToks_eq : bigSep allToks (fun x => (dutyTok ER x.1 x.2.1 x.2.2 : sProp 𝕄)) = bigSep Finset.univ fun c : Dev nD => toksAt c := by
  unfold allToks; rw [bigSep_map, bigSep_univ_prod]
  refine bigSep_congr fun c _ => ?_
  rw [bigSep_univ_sum, both_bools]
  unfold toksAt
  rw [four_kinds]
  rfl

/-- Each token goes to the device that makes its payment. -/
theorem toks_dealt : (bigSep Finset.univ fun c : Dev nD => (toksAt c : sProp 𝕄)) ⊢ bigSep Finset.univ fun c : Dev nD => toksOf c := by
  unfold toksAt toksOf
  iintro H
  ihave H := both_of_all $$ H; icases H with ⟨HB, H⟩
  ihave HB := both_of_all $$ HB; icases HB with ⟨HBt, HBf⟩
  ihave H := both_of_all $$ H; icases H with ⟨H0, H⟩
  ihave H := both_of_all $$ H; icases H with ⟨H1, H⟩
  ihave H := both_of_all $$ H; icases H with ⟨H2, H3⟩
  ihave HBt := (Entails.of_eq (bigSep_univ_equiv xpE (fun c : Dev nD => (dutyTok ER (barC c) 0 true : sProp 𝕄)))) $$ HBt
  ihave HBf := (Entails.of_eq (bigSep_univ_equiv ypE (fun c : Dev nD => (dutyTok ER (barC c) 0 false : sProp 𝕄)))) $$ HBf
  ihave H1 := (Entails.of_eq (bigSep_univ_equiv xpE (fun c : Dev nD => (bigSep Finset.univ fun i : Fin 8 => dutyTok ER (dC 1 i c) 0 true : sProp 𝕄)))) $$ H1
  ihave H3 := (Entails.of_eq (bigSep_univ_equiv ypE (fun c : Dev nD => (bigSep Finset.univ fun i : Fin 8 => dutyTok ER (dC 3 i c) 0 true : sProp 𝕄)))) $$ H3
  iapply all_of_both
  isplitl [HBt HBf]
  · iapply all_of_both
    isplitl [HBt]; · iexact HBt
    iexact HBf
  iapply all_of_both; isplitl [H0]; · iexact H0
  iapply all_of_both; isplitl [H1]; · iexact H1
  iapply all_of_both; isplitl [H2]; · iexact H2
  iexact H3

/-! ## The credits -/

theorem xDue_at (d c : Dev nD) (i : Fin 8) : xDue d Finset.univ (dC 1 i c) () = if d = xp c then NB else 0 := by
  have h0 : xDue d (Finset.univ.erase i) (dC 1 i c) () = 0 := by
    by_contra h
    obtain ⟨j, hj, e⟩ := xDue_pos (Nat.pos_of_ne_zero h)
    exact Finset.ne_of_mem_erase hj (dC_inj e).2.1.symm
  rw [xDue_insert d (Finset.mem_univ i), Pi.add_apply, Finsupp.add_apply, h0, Nat.zero_add, tallyAt_apply]
  by_cases h : d = xp c
  · subst h; rw [xp_xp, if_pos ⟨rfl, rfl⟩, if_pos rfl]
  · rw [if_neg (fun ⟨h1, _⟩ => h (by rw [(dC_inj h1).2.2, xp_xp])), if_neg h]
theorem yDue_at (d c : Dev nD) (i : Fin 8) : yDue d Finset.univ (dC 3 i c) () = if d = yp c then NB else 0 := by
  have h0 : yDue d (Finset.univ.erase i) (dC 3 i c) () = 0 := by
    by_contra h
    obtain ⟨j, hj, e⟩ := yDue_pos (Nat.pos_of_ne_zero h)
    exact Finset.ne_of_mem_erase hj (dC_inj e).2.1.symm
  rw [yDue_insert d (Finset.mem_univ i), Pi.add_apply, Finsupp.add_apply, h0, Nat.zero_add, tallyAt_apply]
  by_cases h : d = yp c
  · subst h; rw [yp_yp, if_pos ⟨rfl, rfl⟩, if_pos rfl]
  · rw [if_neg (fun ⟨h1, _⟩ => h (by rw [(dC_inj h1).2.2, yp_yp])), if_neg h]
theorem xDue_off (d : Dev nD) {g : GSem nD τ sig} (h : ∀ i, g ≠ dC 1 i (xp d)) : xDue d Finset.univ g () = 0 := by
  by_contra hn
  obtain ⟨i, -, e⟩ := xDue_pos (Nat.pos_of_ne_zero hn)
  exact h i e
theorem yDue_off (d : Dev nD) {g : GSem nD τ sig} (h : ∀ i, g ≠ dC 3 i (yp d)) : yDue d Finset.univ g () = 0 := by
  by_contra hn
  obtain ⟨i, -, e⟩ := yDue_pos (Nat.pos_of_ne_zero hn)
  exact h i e
theorem bDue_off (d c : Dev nD) (a : Fin 4) (i : Fin 8) : bDue d (dC a i c) () = 0 := by
  by_contra hn
  rcases bDue_pos (Nat.pos_of_ne_zero hn) with e | e <;> exact dC_ne_barC _ _ _ _ e
theorem bDue_at (d c : Dev nD) : bDue d (barC c) () = (if d = xp c then 1 else 0) + if d = yp c then 1 else 0 := by
  have hx : (barC c = barC (xp d) ∧ () = ()) ↔ d = xp c := by
    constructor
    · rintro ⟨h, -⟩; rw [barC_inj h, xp_xp]
    · rintro rfl; rw [xp_xp]; exact ⟨rfl, rfl⟩
  have hy : (barC c = barC (yp d) ∧ () = ()) ↔ d = yp c := by
    constructor
    · rintro ⟨h, -⟩; rw [barC_inj h, yp_yp]
    · rintro rfl; rw [yp_yp]; exact ⟨rfl, rfl⟩
  unfold bDue
  rw [Pi.add_apply, Finsupp.add_apply, tallyAt_apply, tallyAt_apply, if_congr hx rfl rfl, if_congr hy rfl rfl]

theorem O₀_eval (d : Dev nD) (g : GSem nD τ sig) : O₀ d g () = xDue d Finset.univ g () + yDue d Finset.univ g () + bDue d g () := rfl

theorem launch_bar (c : Dev nD) :
    tallyOn (barC c) (launchCredit (Pipeline.owing O₀) 0 (barC c)) = (tallyAt (barC c) () 2 : CellTallies nD τ sig Unit) := by
  have h (d : Dev nD) : O₀ d (barC c) () = (if d = xp c then 1 else 0) + if d = yp c then 1 else 0 := by
    rw [O₀_eval, xDue_off d (fun i h => dC_ne_barC _ _ _ _ h.symm), yDue_off d (fun i h => dC_ne_barC _ _ _ _ h.symm), bDue_at]; omega
  unfold tallyAt; refine congrArg _ (Finsupp.ext fun u => ?_); cases u
  rw [Pipeline.launchCredit_owing, Finsupp.single_eq_same, Finset.sum_congr rfl fun d _ => h d, Finset.sum_add_distrib,
    Finset.sum_ite_eq' Finset.univ (xp c) fun _ => 1, Finset.sum_ite_eq' Finset.univ (yp c) fun _ => 1, if_pos (Finset.mem_univ _), if_pos (Finset.mem_univ _)]
theorem launch_x (c : Dev nD) (i : Fin 8) :
    tallyOn (dC 1 i c) (launchCredit (Pipeline.owing O₀) 0 (dC 1 i c)) = (tallyAt (dC 1 i c) () NB : CellTallies nD τ sig Unit) := by
  have h (d : Dev nD) : O₀ d (dC 1 i c) () = if d = xp c then NB else 0 := by
    rw [O₀_eval, xDue_at, yDue_off d (fun j h => absurd (dC_inj h).1 (by decide)), bDue_off, Nat.add_zero]
  unfold tallyAt; refine congrArg _ (Finsupp.ext fun u => ?_); cases u
  rw [Pipeline.launchCredit_owing, Finsupp.single_eq_same, Finset.sum_congr rfl fun d _ => h d,
    Finset.sum_ite_eq' Finset.univ (xp c) fun _ => NB, if_pos (Finset.mem_univ _)]
theorem launch_y (c : Dev nD) (i : Fin 8) :
    tallyOn (dC 3 i c) (launchCredit (Pipeline.owing O₀) 0 (dC 3 i c)) = (tallyAt (dC 3 i c) () NB : CellTallies nD τ sig Unit) := by
  have h (d : Dev nD) : O₀ d (dC 3 i c) () = if d = yp c then NB else 0 := by
    rw [O₀_eval, yDue_at, xDue_off d (fun j h => absurd (dC_inj h).1 (by decide)), bDue_off, Nat.add_zero, Nat.zero_add]
  unfold tallyAt; refine congrArg _ (Finsupp.ext fun u => ?_); cases u
  rw [Pipeline.launchCredit_owing, Finsupp.single_eq_same, Finset.sum_congr rfl fun d _ => h d,
    Finset.sum_ite_eq' Finset.univ (yp c) fun _ => NB, if_pos (Finset.mem_univ _)]

/-- The cells, one device's, that others pay copies into. -/
def paidEmb : Fin 8 ⊕ Fin 8 ↪ SemLoc sig := ⟨Sum.elim (fun i => .dma (dsem 1 i)) (fun i => .dma (dsem 3 i)), by
  rintro (i | i) (j | j) h
  · exact congrArg Sum.inl (congrArg Prod.snd (osem1_inj (a₁ := (1, i)) (a₂ := (1, j)) h))
  · exact absurd (congrArg Prod.fst (osem1_inj (a₁ := (1, i)) (a₂ := (3, j)) h)) (show (1 : Fin 4) ≠ 3 by decide)
  · exact absurd (congrArg Prod.fst (osem1_inj (a₁ := (3, i)) (a₂ := (1, j)) h)) (show (3 : Fin 4) ≠ 1 by decide)
  · exact congrArg Sum.inr (congrArg Prod.snd (osem1_inj (a₁ := (3, i)) (a₂ := (3, j)) h))⟩

theorem creds (c : Dev nD) :
    (Pipeline.launchCred O₀ c : sProp 𝕄) ⊢ iprop(cred (tallyAt (barC c) () 2)
      ∗ (bigSep Finset.univ fun i : Fin 8 => cred (tallyAt (dC 1 i c) () NB)) ∗ bigSep Finset.univ fun i : Fin 8 => cred (tallyAt (dC 3 i c) () NB)) := by
  unfold Pipeline.launchCred
  rw [bigSep_univ_at _ (SemLoc.reg barS), launch_bar]
  refine sep_mono_right ?_
  have hs : Finset.univ.map paidEmb ⊆ Finset.univ.erase (SemLoc.reg barS : SemLoc sig) := fun s hs => by
    obtain ⟨i | i, -, rfl⟩ := Finset.mem_map.mp hs
    · exact Finset.mem_erase.mpr ⟨osem1_ne_bar (1, i), Finset.mem_univ _⟩
    · exact Finset.mem_erase.mpr ⟨osem1_ne_bar (3, i), Finset.mem_univ _⟩
  refine BIBase.Entails.trans (bigSep_subset hs) (Entails.of_eq ?_)
  rw [bigSep_map, bigSep_univ_sum]
  refine congrArg₂ _ (bigSep_congr fun i _ => ?_) (bigSep_congr fun i _ => ?_)
  · rw [← launch_x]; rfl
  · rw [← launch_y]; rfl

/-! ## What each device starts with -/

/-- What a device brings besides the schedule's ghost state. -/
def own₀ (c : Dev nD) : sProp 𝕄 :=
  iprop(cred (tallyAt (barC c) () 2) ∗ (bigSep Finset.univ fun i : Fin 8 => cred (tallyAt (dC 1 i c) () NB))
    ∗ (bigSep Finset.univ fun i : Fin 8 => cred (tallyAt (dC 3 i c) () NB)) ∗ owes (c : Thread nD τ) (O₀ c) ∅ ∗ ∃ r, prngReg c r)
/-- What it is dealt of the ghost state. -/
def dealt (c : Dev nD) : sProp 𝕄 :=
  iprop(atPos ER (barC c) 0 ∅ 0 ∗ (bigSep Finset.univ fun k : Fin 4 × Fin 8 => openTok ER (dC k.1 k.2 c)) ∗ toksOf c)

theorem rest_intro (κ : GSem nD τ sig → ℕ) (c : Dev nD) : iprop(invs (msg m) κ ∗ (dealt c ∗ own₀ c)) ⊢ rest m 0 c := by
  unfold dealt own₀ rest ridesA talk kept toksOf
  iintro ⟨#HI, ⟨Hat, Hop, ⟨HBt, HBf⟩, H0, H1, H2, H3⟩, Hcb, Hcx, Hcy, HO, Hp⟩
  isplitr [HO]
  · isplitr [Hp]
    · iexists κ
      isplitr; · iexact HI
      isplitl [Hop]; · iexact Hop
      isplitl [HBt HBf Hat Hcb]
      · isplitl [HBt]; · iexact HBt
        isplitl [HBf]; · iexact HBf
        isplitl [Hat]; · iexact Hat
        iexact Hcb
      isplitl [H0 H1]
      · iapply all_of_both; isplitl [H0]; · iexact H0
        iexact H1
      isplitl [Hcx H2 H3]
      · iapply all_of_both; isplitl [Hcx]; · iexact Hcx
        iapply all_of_both; isplitl [H2]; · iexact H2
        iexact H3
      iexact Hcy
    iexact Hp
  iexists ∅; iexact HO

theorem barrier_sems (c : Dev nD) : (unscopedSems0 c : sProp 𝕄) = semVal (barC c) 0 := by
  unfold unscopedSems0
  rw [show (Finset.univ.filter fun sm : SemLoc sig => ¬sm.isScoped .tc = true) = {SemLoc.reg barS} from by decide, bigSep_singleton]

theorem own_intro (c : Dev nD) :
    iprop(unscopedSems0 c ∗ owes (c : Thread nD τ) (O₀ c) ∅ ∗ Pipeline.launchCred O₀ c ∗ prngReg c (ρ c) ∗ brings c)
      ⊢ (iprop(own₀ c ∗ (semVal (barC c) 0 ∗ brings c)) : sProp 𝕄) := by
  rw [barrier_sems]
  unfold own₀
  iintro ⟨Hs, HO, Hc, Hp, HG⟩
  ihave Hc := (creds (F := F) c) $$ Hc
  icases Hc with ⟨Hb, Hx, Hy⟩
  isplitl [Hb Hx Hy HO Hp]
  · isplitl [Hb]; · iexact Hb
    isplitl [Hx]; · iexact Hx
    isplitl [Hy]; · iexact Hy
    isplitl [HO]; · iexact HO
    iexists (ρ c); iexact Hp
  isplitl [Hs]; · iexact Hs
  iexact HG

/-- The launch, on every device at once. -/
theorem launched :
    iprop((bigSep Finset.univ fun c : Dev nD => iprop(unscopedSems0 c ∗ owes (c : Thread nD τ) (O₀ c) ∅ ∗ Pipeline.launchCred O₀ c ∗ prngReg c (ρ c) ∗ brings c))
        ∗ levAts L lv)
      ⊢ (|={Set.univ}=> bigSep Finset.univ (rest m 0) : sProp 𝕄) := by
  have hown : (bigSep Finset.univ fun c : Dev nD => iprop(unscopedSems0 c ∗ owes (c : Thread nD τ) (O₀ c) ∅ ∗ Pipeline.launchCred O₀ c ∗ prngReg c (ρ c) ∗ brings c))
      ⊢ (bigSep Finset.univ fun c : Dev nD => iprop(own₀ c ∗ (semVal (barC c) 0 ∗ brings c)) : sProp 𝕄) := bigSep_mono fun c _ => own_intro ρ c
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barC c) 0 : sProp 𝕄)) :=
    Entails.of_eq (bigSep_map (s := Finset.univ) barEmb (Φ := fun g : GSem nD τ sig => (reached ER g 0 : sProp 𝕄)))
  have hop : bigSep copyCells (fun g => (openTok ER g : sProp 𝕄))
      ⊢ bigSep Finset.univ (fun c : Dev nD => bigSep Finset.univ fun k : Fin 4 × Fin 8 => (openTok ER (dC k.1 k.2 c) : sProp 𝕄)) :=
    Entails.of_eq (by rw [bigSep_map, bigSep_univ_prod]; rfl)
  have hinv (κ : GSem nD τ sig → ℕ) : bigSep (barCells ∪ copyCells) (fun g => (cellInv ER (Rd (msg m)) (κ g) g : sProp 𝕄))
      ⊢ iprop((bigSep Finset.univ fun c : Dev nD => cellInv ER (Rd (msg m)) (κ (barC c)) (barC c))
        ∗ bigSep Finset.univ fun k : Dev nD × (Fin 4 × Fin 8) => cellInv ER (Rd (msg m)) (κ (dC k.2.1 k.2.2 k.1)) (dC k.2.1 k.2.2 k.1)) :=
    Entails.of_eq (by rw [BI.bigSep_union cells_apart, bigSep_map, bigSep_map]; rfl)
  iintro ⟨H, #HL⟩
  ihave H := hown $$ H
  ihave H := both_of_all $$ H; icases H with ⟨HW, H⟩
  ihave H := both_of_all $$ H; icases H with ⟨Hv, HG⟩
  ihave HG := (show bigSep Finset.univ (brings (F := F)) ⊢ BI.own (ER (launchOf barCells copyCells allToks)) from
    Entails.of_eq (brought (F := F) 0 (BI.own (ER (launchOf barCells copyCells allToks))))) $$ HG
  imod (Rounds.fund_launch ER (Rd (msg m)) cells_apart (fun g _ h => h) allToks) $$ [Hv HG] with ⟨%κ, -, #HI, #HR, Hat, Hop, Htok⟩
  · isplitl [Hv]
    · iapply hv $$ Hv
    · iexact HG
  imodintro
  iapply (bigSep_with_persistent (R := invs (msg m) κ) (Φ := fun c => iprop(dealt c ∗ own₀ c)) fun c _ => rest_intro m κ c)
  isplitr
  · unfold invs
    ihave HI' := (hinv κ) $$ HI
    icases HI' with ⟨#HI1, #HI2⟩
    isplitr; · iexact HI1
    isplitr; · iexact HI2
    isplitr; · iapply hre; iexact HR
    iexact HL
  iapply all_of_both
  isplitr [HW]
  · unfold dealt
    iapply all_of_both; isplitl [Hat]; · iapply hat $$ Hat
    iapply all_of_both; isplitl [Hop]; · iapply hop $$ Hop
    iapply (toks_dealt (F := F))
    iapply (Entails.of_eq (allToks_eq (F := F))) $$ Htok
  · iexact HW

end Cert.KernelIdeal.Talk

end
-- ==== Proof.Ideal.Run.lean ====
/-
  The whole run: from any memory with its counters at zero, every device ends, its arguments as they were, its result as the
  regions leave it, and every counter at zero again.
-/
module

public import proofs.«01_k».proof.Proof.Ideal.Launch

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg RegionSeg Seg)

variable {F : FTy → Type} [FloatOps F]

local notation "𝕄" => MT nD τ sig Unit (Elt F) ℕ UU ℕ

variable (m : (ℓ : Loc nD τ sig) → Buf (Elt F) ℓ) (ρ : Dev nD → PrngReg)

theorem unscoped_bar : ∀ sm : SemLoc sig, sm.isScoped .tc = false → sm = .reg barS := by decide

/-- What a device ends with: the unscoped buffers, and its barrier's counter at zero. -/
def ends (c : Dev nD) : sProp 𝕄 := iprop(StableHlo.held (c : Thread nD τ) (Pipeline.ucRefs τ sig) (V5 m (outs m) c) ∗ semVal (barC c) 0)

theorem rest_ends (c : Dev nD) :
    iprop(StableHlo.held (c : Thread nD τ) (Pipeline.ucRefs τ sig) (V5 m (outs m) c) ∗ rest m 3 c)
      ⊢ iprop(ends m c ∗ ∃ W, owes (c : Thread nD τ) (0 : CellTallies nD τ sig Unit) W) := by
  unfold rest ridesB ends
  iintro ⟨Hh, ⟨Hb, -⟩, HO⟩
  isplitr [HO]
  · isplitl [Hh]; · iexact Hh
    iexact Hb
  iexact HO

/-- One device's part of the final memory. -/
def finalAt (c : Dev nD) (s : MemSt nD τ sig (Elt F)) : Prop :=
  (s.mem ((c.tc : Thread nD τ).loc main_v5) = V5 m (outs m) c (Proc.devRef .tc main_v5)
    ∧ s.mem ((c.tc : Thread nD τ).loc main_arg0) = m ((c.tc : Thread nD τ).loc main_arg0)
    ∧ s.mem ((c.tc : Thread nD τ).loc main_arg1) = m ((c.tc : Thread nD τ).loc main_arg1)) ∧ s.sem (barC c) = 0

theorem ends_read (c : Dev nD) (s' : Phys nD τ sig (Elt F)) : iprop(ends m c ∗ SI s') ⊢ (|={Set.univ}=> iprop(⌜finalAt m c s'.mem⌝ ∗ SI s') : sProp 𝕄) := by
  unfold ends StableHlo.held
  iintro ⟨⟨Hh, Hb⟩, HSI⟩
  icombine HSI Hb gives %hb
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    exact ⟨⟨h (Proc.devRef .tc main_v5) (Finset.mem_filter.mpr ⟨StableHlo.devRef_mem_tcRefs main_v5, by decide⟩),
      (h (Proc.devRef .tc main_arg0) (Finset.mem_filter.mpr ⟨StableHlo.devRef_mem_tcRefs main_arg0, by decide⟩)).trans (V5_main_arg0 m (outs m) c),
      (h (Proc.devRef .tc main_arg1) (Finset.mem_filter.mpr ⟨StableHlo.devRef_mem_tcRefs main_arg1, by decide⟩)).trans (V5_main_arg1 m (outs m) c)⟩,
      by simpa using hb⟩
  iexact HSI

/-- The launch gives each device its buffers and its rest state. -/
theorem started :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ brings c)) ∗ levAts L lv)
      ⊢ (|={Set.univ}=> bigSep Finset.univ fun c : Dev nD => iprop(StableHlo.held (c : Thread nD τ) (Pipeline.ucRefs τ sig) (V0 m c) ∗ rest m 0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ brings c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ brings c))
          : sProp 𝕄) := by
    refine BIBase.Entails.trans ?_ both_of_all
    exact bigSep_mono fun c _ => by rw [← Pipeline.unscopedBufs_held (Ix := Unit) (Name := ℕ) (U := UU) (Lvl := ℕ) c (V0 m c)]; exact BI.Entails.refl _
  iintro ⟨H, HL⟩
  ihave H := hsplit $$ H
  icases H with ⟨Hh, Hr⟩
  imod (launched m ρ) $$ [Hr HL] with HE
  · isplitl [Hr]; · iexact Hr
    iexact HL
  imodintro
  iapply all_of_both
  isplitl [Hh]; · iexact Hh
  iexact HE

set_option backward.isDefEq.respectTransparency.types false in
/-- Every weakly fair run of the program from memory `m`, counters at zero, ends with each device's result as computed, its
    arguments unchanged, and every counter at zero. -/
theorem run_main : θ_run defs (onTc (τ := τ) (main (F := F))) ⟨m, fun _ => 0, ρ⟩
    (fun r => (∀ c : Dev nD, r.2.mem ((c.tc : Thread nD τ).loc main_v5) = V5 m (outs m) c (Proc.devRef .tc main_v5)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_dev_sems (pcfgs (F := F)) adm (pdats m) () cellOf_inj EP defs₀ 𝒱₀ L lv m ρ main
    (segs m (outs m) 𝒱₀ L lv (rest m) () (pdats m) (region0 m) (region1 m) (region2 m))
    (fun c Q => by
      rewrite [main_chain c, Seg.run_eq_chain,
        show (segs m (outs m) 𝒱₀ L lv (rest m) () (pdats m) (region0 m) (region1 m) (region2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ L_of_ne brings u₀
    (by
      unfold u₀ brings
      iintro Hu
      ihave H := (ownU_pair _ _) $$ Hu
      icases H with ⟨HP, HX⟩
      imodintro
      isplitl [HP]; · iexact HP
      rw [brought]; iexact HX)
    (T₀ := fun c => iprop(StableHlo.held (c : Thread nD τ) (Pipeline.ucRefs τ sig) (V0 m c) ∗ rest m 0 c))
    (Tₙ := ends m)
    (hch := fun c => ⟨.rfl, region0_in m c, (region0_out m c).trans (region1_in m c), (region1_out m c).trans (region2_in m c), region2_out m c, rest_ends m c⟩)
    (hinit := started m ρ) (QY := finalAt m) (hfin := ends_read m)
    (hQ := fun s h hs => ⟨fun c => (h c).1, sem_eq_zero hs fun c sm hsm => by
      obtain rfl := unscoped_bar sm hsm
      exact (h c).2⟩)

end Cert.KernelIdeal.Talk

end
-- ==== Proof.Ideal.Blocks.lean ====
/-
  Where the windows' blocks lie in their arrays, and what the flattening region leaves: the first operand, its head and
  feature axes merged.
-/
module

public import proofs.«01_k».proof.Proof.Ideal.Records
public import Idealize.ShloMosaic.Lib.Pointwise
public import Idealize.ShloMosaic.Lib.Pipeline.Value

@[expose] public section

noncomputable section

namespace Cert.KernelIdeal.Talk

open Cert.KernelIdeal Cert.KernelIdeal.Gen
open Idealize.ShloMosaic Idealize.ShloMosaic.TcCoe
open Idealize.ShloMosaic.Pipeline (Dat)

variable {F : FTy → Type} [FloatOps F]

/-! ## The block a point is on, window by window -/

/-- Block `t` of the rows. -/
theorem idx0_0 : ∀ t : Fin grid0.N, win0_0.index t 0 = t.val ∧ win0_0.index t 1 = 0 ∧ win0_0.index t 2 = 0 := by decide +kernel
/-- Block `t` of the rows. -/
theorem idx0_1 : ∀ t : Fin grid0.N, win0_1.index t 0 = t.val ∧ win0_1.index t 1 = 0 := by decide +kernel
/-- All rows, column block `t % 4`. -/
theorem idx1_0 : ∀ t : Fin grid1.N, win1_0.index t 0 = 0 ∧ win1_0.index t 1 = t.val % 4 := by decide +kernel
/-- Row block `t % 4`, column block `t / 4`. -/
theorem idx1_1 : ∀ t : Fin grid1.N, win1_1.index t 0 = t.val % 4 ∧ win1_1.index t 1 = t.val / 4 := by decide +kernel
/-- All rows, column block `t / 4`. -/
theorem idx1_2 : ∀ t : Fin grid1.N, win1_2.index t 0 = 0 ∧ win1_2.index t 1 = t.val / 4 := by decide +kernel
/-- All rows, column block `t`. -/
theorem idx2_0 : ∀ t : Fin grid2.N, win2_0.index t 0 = 0 ∧ win2_0.index t 1 = t.val := by decide +kernel
/-- All rows, column block `t`. -/
theorem idx2_1 : ∀ t : Fin grid2.N, win2_1.index t 0 = 0 ∧ win2_1.index t 1 = t.val := by decide +kernel
/-- All rows, column block `t`. -/
theorem idx2_2 : ∀ t : Fin grid2.N, win2_2.index t 0 = 0 ∧ win2_2.index t 1 = t.val := by decide +kernel

/-! ## Where an element of that block is in the array -/

/-- The flattening region's operand. -/
theorem emb0_0 (t : Fin cfg0.N) (x : S256x32x128.Idx) :
    ((win0_0.rect t).emb x 0 : ℕ) = t.val * 256 + x 0 ∧ ((win0_0.rect t).emb x 1 : ℕ) = x 1 ∧ ((win0_0.rect t).emb x 2 : ℕ) = x 2 :=
  ⟨(win0_0.rect_emb_val t x 0).trans (by rw [(idx0_0 t).1]; rfl), win0_0.rect_emb_val_of_index_zero t 1 (idx0_0 t).2.1 x,
    win0_0.rect_emb_val_of_index_zero t 2 (idx0_0 t).2.2 x⟩
/-- The flattening region's result. -/
theorem emb0_1 (t : Fin cfg0.N) (x : S256x4096.Idx) :
    ((win0_1.rect t).emb x 0 : ℕ) = t.val * 256 + x 0 ∧ ((win0_1.rect t).emb x 1 : ℕ) = x 1 :=
  ⟨(win0_1.rect_emb_val t x 0).trans (by rw [(idx0_1 t).1]; rfl), win0_1.rect_emb_val_of_index_zero t 1 (idx0_1 t).2 x⟩
/-- The fused region's first operand. -/
theorem emb1_0 (t : Fin cfg1.N) (x : S2048x1024.Idx) :
    ((win1_0.rect t).emb x 0 : ℕ) = x 0 ∧ ((win1_0.rect t).emb x 1 : ℕ) = t.val % 4 * 1024 + x 1 :=
  ⟨win1_0.rect_emb_val_of_index_zero t 0 (idx1_0 t).1 x, (win1_0.rect_emb_val t x 1).trans (by rw [(idx1_0 t).2]; rfl)⟩
/-- The fused region's second operand. -/
theorem emb1_1 (t : Fin cfg1.N) (x : S1024x1024.Idx) :
    ((win1_1.rect t).emb x 0 : ℕ) = t.val % 4 * 1024 + x 0 ∧ ((win1_1.rect t).emb x 1 : ℕ) = t.val / 4 * 1024 + x 1 :=
  ⟨(win1_1.rect_emb_val t x 0).trans (by rw [(idx1_1 t).1]; rfl), (win1_1.rect_emb_val t x 1).trans (by rw [(idx1_1 t).2]; rfl)⟩
/-- The fused region's result. -/
theorem emb1_2 (t : Fin cfg1.N) (x : S1024x1024.Idx) :
    ((win1_2.rect t).emb x 0 : ℕ) = x 0 ∧ ((win1_2.rect t).emb x 1 : ℕ) = t.val / 4 * 1024 + x 1 :=
  ⟨win1_2.rect_emb_val_of_index_zero t 0 (idx1_2 t).1 x, (win1_2.rect_emb_val t x 1).trans (by rw [(idx1_2 t).2]; rfl)⟩
/-- The adding region's first operand. -/
theorem emb2_0 (t : Fin cfg2.N) (x : S1024x1024.Idx) :
    ((win2_0.rect t).emb x 0 : ℕ) = x 0 ∧ ((win2_0.rect t).emb x 1 : ℕ) = t.val * 1024 + x 1 :=
  ⟨win2_0.rect_emb_val_of_index_zero t 0 (idx2_0 t).1 x, (win2_0.rect_emb_val t x 1).trans (by rw [(idx2_0 t).2]; rfl)⟩
/-- The adding region's second operand. -/
theorem emb2_1 (t : Fin cfg2.N) (x : S1024x1024.Idx) :
    ((win2_1.rect t).emb x 0 : ℕ) = x 0 ∧ ((win2_1.rect t).emb x 1 : ℕ) = t.val * 1024 + x 1 :=
  ⟨win2_1.rect_emb_val_of_index_zero t 0 (idx2_1 t).1 x, (win2_1.rect_emb_val t x 1).trans (by rw [(idx2_1 t).2]; rfl)⟩
/-- The adding region's result. -/
theorem emb2_2 (t : Fin cfg2.N) (x : S1024x1024.Idx) :
    ((win2_2.rect t).emb x 0 : ℕ) = x 0 ∧ ((win2_2.rect t).emb x 1 : ℕ) = t.val * 1024 + x 1 :=
  ⟨win2_2.rect_emb_val_of_index_zero t 0 (idx2_2 t).1 x, (win2_2.rect_emb_val t x 1).trans (by rw [(idx2_2 t).2]; rfl)⟩

/-- Two indices of a matrix with equal coordinates are one. -/
theorem ix2_of_val {m n : ℕ} {i j : (⟨2, ![m, n]⟩ : Shape).Idx} (h0 : (i 0 : ℕ) = j 0) (h1 : (i 1 : ℕ) = j 1) : i = j :=
  funext fun a => Fin.ext (match a with | ⟨0, _⟩ => h0 | ⟨1, _⟩ => h1)
/-- Likewise at rank three. -/
theorem ix3_of_val {l m n : ℕ} {i j : (⟨3, ![l, m, n]⟩ : Shape).Idx} (h0 : (i 0 : ℕ) = j 0) (h1 : (i 1 : ℕ) = j 1)
    (h2 : (i 2 : ℕ) = j 2) : i = j :=
  funext fun a => Fin.ext (match a with | ⟨0, _⟩ => h0 | ⟨1, _⟩ => h1 | ⟨2, _⟩ => h2)

/-! ## The flattening region -/

variable (V : Dev nD → Valuation τ sig (Elt F))

/-- An array of heads by features with those two axes merged. -/
def merged {α : Type} (X : S2048x32x128.Idx → α) : S2048x4096.Idx → α :=
  shapeCast S2048x4096 X (by decide)

/-- The merged array at an index. -/
theorem merged_apply {α : Type} (X : S2048x32x128.Idx → α) (i : S2048x4096.Idx) :
    merged X i = X (ix3 (i 0) ⟨(i 1).val / 128, by have := (i 1).isLt; have : (i 1).val < 4096 := this; omega⟩
      ⟨(i 1).val % 128, Nat.mod_lt _ (by decide)⟩) := by
  unfold merged; pointwise

/-- The flattening region leaves its operand with the two axes merged. -/
theorem arr0 (c : Dev nD) : (dat0 V c).arrAt 1 cfg0.N = merged (V c (Proc.devRef .tc main_v1)) := by
  refine (dat0 V c).arrAt_eq_of_cover 1 (merged (V c (Proc.devRef .tc main_v1))) (fun t _ => funext fun y => ?_) fun i => ?_
  · show k0_pay1 (blkR V c t) y = merged (V c (Proc.devRef .tc main_v1)) ((win0_1.rect t).emb y)
    have hy := emb0_1 t y
    rw [merged_apply]
    unfold k0_pay1
    pointwise
    show V c (Proc.devRef .tc main_v1) ((win0_0.rect t).emb _) = _
    refine congrArg _ (ix3_of_val (l := 2048) (m := 32) (n := 128) ?_ ?_ ?_)
    · exact (emb0_0 t _).1.trans hy.1.symm
    · exact (emb0_0 t _).2.1.trans (congrArg (· / 128) hy.2.symm)
    · exact (emb0_0 t _).2.2.trans (congrArg (· % 128) hy.2.symm)
  · have h0 : (i 0).val < 2048 := (i 0).isLt
    have h1 : (i 1).val < 4096 := (i 1).isLt
    have hN : cfg0.N = 8 := N_0
    obtain ⟨t, ht⟩ : ∃ t : Fin cfg0.N, t.val = (i 0).val / 256 := ⟨⟨(i 0).val / 256, by omega⟩, rfl⟩
    have e : i = (win0_1.rect t).emb (ix2 (n0 := 256) (n1 := 4096) ⟨(i 0).val % 256, Nat.mod_lt _ (by decide)⟩ ⟨(i 1).val, h1⟩) := by
      refine ix2_of_val (m := 2048) (n := 4096) ?_ ?_
      · rw [(emb0_1 _ _).1]; show (i 0).val = t.val * 256 + (i 0).val % 256; omega
      · rw [(emb0_1 _ _).2]; rfl
    exact ⟨t, flush0_1 _, e ▸ ((cfg0.win 1).blk t).view.emb_mem_set _⟩

variable (m : (ℓ : Loc nD τ sig) → Buf (Elt F) ℓ)

/-- An array without its leading unit axis. -/
def dropped {α : Type} (X : S1x2048x32x128.Idx → α) : S2048x32x128.Idx → α :=
  shapeCast S2048x32x128 X shapeCasts_S1x2048x32x128_S2048x32x128

/-- The array without its unit axis at an index. -/
theorem dropped_apply {α : Type} (X : S1x2048x32x128.Idx → α) (i : S2048x32x128.Idx) :
    dropped X i = X (ix4 (n0 := 1) 0 (i 0) (i 1) (i 2)) := by
  unfold dropped; pointwise

/-- What the first region finds. -/
theorem V1_v1 (c : Dev nD) : V1 m c (Proc.devRef .tc main_v1) = dropped (m ((c : Thread nD τ).loc main_arg0)) := by
  after_results; rfl

/-- What the fused region finds as its first operand: the argument without its unit axis, its head and feature axes merged. -/
theorem W2_v2 (c : Dev nD) : W2 m c (Proc.devRef .tc main_v2) = merged (dropped (m ((c : Thread nD τ).loc main_arg0))) := by
  unfold W2
  rw [Function.update_self, arr0, V1_v1]

/-- The fused region finds the second operand as launched. -/
theorem W2_arg1 (c : Dev nD) : W2 m c (Proc.devRef .tc main_arg1) = m ((c : Thread nD τ).loc main_arg1) := by
  unfold W2
  rw [Function.update_of_ne (by decide)]
  exact V1_of m c main_arg1 (by decide)

end Cert.KernelIdeal.Talk

end
-- ==== Proof.Ideal.Products.lean ====
/-
  The fused region's value over the extended reals: after a row of four points the block it accumulates holds the products of
  the rows of the first operand with the columns of the second, summed over the whole contracted axis.
-/
module

public import proofs.«01_k».proof.Proof.Ideal.Blocks

@[expose] public section

noncomputable section

namespace Cert.KernelIdeal.Talk

open Cert.KernelIdeal Cert.KernelIdeal.Gen
open Idealize.ShloMosaic Idealize.ShloMosaic.TcCoe
open scoped BigOperators

/-! ## One point -/

section Point

variable (XA : Dev nD → ℕ → S2048x1024.Idx → Elt Ideal .f32) (XB : Dev nD → ℕ → S1024x1024.Idx → Elt Ideal .f32)

/-- The output block starts at zero. -/
theorem pay3_apply (i : S1024x1024.Idx) : (k1_pay3 (F := Ideal)) i = (0 : EReal) := by
  unfold k1_pay3; pointwise

/-- The row partner's block starts at zero. -/
theorem pay4_apply (i : S1024x512.Idx) : (k1_pay4 (F := Ideal)) i = (0 : EReal) := by
  unfold k1_pay4; pointwise

/-- What a point stores in the output block, at an index. -/
theorem pay5_apply (X Z Y : S1024x1024.Idx → Elt Ideal .f32) (i : S1024x1024.Idx) :
    (k1_pay5 X Z Y i : EReal) = Z i + ∑ l : Fin 1024, (X (ix2 (i 0) l) : EReal) * Y (ix2 l (i 1)) := by
  unfold k1_pay5; pointwise

/-- What a point stores in the row partner's block, at an index. -/
theorem pay1_apply (X : S1024x1024.Idx → Elt Ideal .f32) (Y Z : S1024x512.Idx → Elt Ideal .f32) (i : S1024x512.Idx) :
    (k1_pay1 X Y Z i : EReal) = Z i + ∑ l : Fin 1024, (X (ix2 (i 0) l) : EReal) * Y (ix2 l (i 1)) := by
  unfold k1_pay1; pointwise

/-- What a device sends is the accumulated block: over the extended reals the rounding does nothing. -/
theorem stg_apply (c : Dev nD) (m : Fin 8) (i : S1024x512.Idx) : (stg XA XB c m i : EReal) = aAt XA XB c (4 * m.val + 3) i := by
  unfold stg unsq k1_pay2; pointwise

/-- The product of a point's blocks that goes into the output block, at an index. -/
def ownTerm (c : Dev nD) (t : ℕ) (a b : Fin 1024) : EReal :=
  ∑ l : Fin 1024, (XA c t (ix2 ⟨(hx c).val * 1024 + a.val, by omega⟩ l) : EReal) * XB c t (ix2 l b)
/-- The product that goes into the row partner's block. -/
def otherTerm (c : Dev nD) (t : ℕ) (a : Fin 1024) (b : Fin 512) : EReal :=
  ∑ l : Fin 1024, (XA c t (ix2 ⟨(fl (hx c)).val * 1024 + a.val, by omega⟩ l) : EReal) * XB c t (ix2 l ⟨(hy c).val * 512 + b.val, by omega⟩)

/-- A point adds its product to the output block. -/
theorem stepP_apply (c : Dev nD) (t : ℕ) (z : S1024x1024.Idx → Elt Ideal .f32) (a b : Fin 1024) :
    (stepP XA XB c t z (ix2 a b) : EReal) = z (ix2 a b) + ownTerm XA XB c t a b := by
  unfold stepP
  rw [pay5_apply]
  refine congrArg (z (ix2 a b) + ·) (Finset.sum_congr rfl fun l _ => ?_)
  refine congrArg₂ (fun x y : EReal => x * y) (congrArg (XA c t) (ix2_of_val (m := 2048) (n := 1024) ?_ ?_)) rfl
  · show k1_off1 c 0 + 1 * a.val = (hx c).val * 1024 + a.val
    rw [off1_eq, Nat.one_mul]; rfl
  · show k1_off1 c 1 + 1 * l.val = l.val
    rw [off1_eq, Nat.one_mul]; exact Nat.zero_add _

/-- A point adds its other product to the row partner's block. -/
theorem stepA_apply (c : Dev nD) (t : ℕ) (z : S1024x512.Idx → Elt Ideal .f32) (a : Fin 1024) (b : Fin 512) :
    (stepA XA XB c t z (ix2 a b) : EReal) = z (ix2 a b) + otherTerm XA XB c t a b := by
  unfold stepA
  rw [pay1_apply]
  refine congrArg (z (ix2 a b) + ·) (Finset.sum_congr rfl fun l _ => ?_)
  refine congrArg₂ (fun x y : EReal => x * y) (congrArg (XA c t) (ix2_of_val (m := 2048) (n := 1024) ?_ ?_))
    (congrArg (XB c t) (ix2_of_val (m := 1024) (n := 1024) ?_ ?_))
  · show k1_off2 c 0 + 1 * a.val = (fl (hx c)).val * 1024 + a.val
    rw [off2_eq, Nat.one_mul]; rfl
  · show k1_off2 c 1 + 1 * l.val = l.val
    rw [off2_eq, Nat.one_mul]; exact Nat.zero_add _
  · show k1_off3 c 0 + 1 * l.val = l.val
    rw [off3_eq, Nat.one_mul]; exact Nat.zero_add _
  · show k1_off3 c 1 + 1 * b.val = (hy c).val * 512 + b.val
    rw [off3_eq, Nat.one_mul]; rfl

/-- After the four points of a column block the output block is the sum of their products. -/
theorem pAt_last (c : Dev nD) (n : ℕ) (a b : Fin 1024) :
    (pAt XA XB c (4 * n + 3) (ix2 a b) : EReal) = ∑ k : Fin 4, ownTerm XA XB c (4 * n + k.val) a b := by
  rw [pAt_next XA XB c (by omega), stepP_apply, show 4 * n + 3 - 1 = 4 * n + 2 from by omega,
    pAt_next XA XB c (by omega), stepP_apply, show 4 * n + 2 - 1 = 4 * n + 1 from by omega,
    pAt_next XA XB c (by omega), stepP_apply, show 4 * n + 1 - 1 = 4 * n from by omega,
    pAt_start XA XB c (by omega), stepP_apply, pay3_apply, Fin.sum_univ_four, zero_add]
  rfl

/-- After the four points of a column block the row partner's block is the sum of their products. -/
theorem aAt_last (c : Dev nD) (n : ℕ) (a : Fin 1024) (b : Fin 512) :
    (aAt XA XB c (4 * n + 3) (ix2 a b) : EReal) = ∑ k : Fin 4, otherTerm XA XB c (4 * n + k.val) a b := by
  rw [aAt_next XA XB c (by omega), stepA_apply, show 4 * n + 3 - 1 = 4 * n + 2 from by omega,
    aAt_next XA XB c (by omega), stepA_apply, show 4 * n + 2 - 1 = 4 * n + 1 from by omega,
    aAt_next XA XB c (by omega), stepA_apply, show 4 * n + 1 - 1 = 4 * n from by omega,
    aAt_start XA XB c (by omega), stepA_apply, pay4_apply, Fin.sum_univ_four, zero_add]
  rfl

end Point

/-! ## A row of four points -/

/-- A sum over the contracted axis, cut into four runs. -/
theorem sum_four_runs (f : Fin 4096 → EReal) :
    ∑ q, f q = ∑ k : Fin 4, ∑ l : Fin 1024, f ⟨k.val * 1024 + l.val, by omega⟩ := by
  rw [← Equiv.sum_comp (finProdFinEquiv (m := 4) (n := 1024)) f, Fintype.sum_prod_type]
  refine Finset.sum_congr rfl fun k _ => Finset.sum_congr rfl fun l _ => congrArg f (Fin.ext ?_)
  show l.val + 1024 * k.val = k.val * 1024 + l.val
  omega

/-- Row `r` of the first operand times column `j` of the second. -/
def dotAt (A : S2048x4096.Idx → EReal) (B : S4096x8192.Idx → EReal) (r : Fin 2048) (j : Fin 8192) : EReal :=
  ∑ q : Fin 4096, A (ix2 r q) * B (ix2 q j)

variable (V : Dev nD → Valuation τ sig (Elt Ideal))

/-- The two operands as the fused region finds them. -/
def opA (c : Dev nD) : S2048x4096.Idx → EReal := V c (Proc.devRef .tc main_v2)
def opB (c : Dev nD) : S4096x8192.Idx → EReal := V c (Proc.devRef .tc main_arg1)

/-- A point's block of the first operand, read in the whole operand. -/
theorem XA_apply (c : Dev nD) (n : Fin 8) (k : Fin 4) (r : Fin 2048) (l : Fin 1024) :
    (XA V c (4 * n.val + k.val) (ix2 r l) : EReal) = opA V c (ix2 r ⟨k.val * 1024 + l.val, by omega⟩) := by
  have hv : (pt (4 * n.val + k.val)).val = 4 * n.val + k.val := Nat.mod_eq_of_lt (by omega)
  refine congrArg (opA V c) (ix2_of_val (m := 2048) (n := 4096) ?_ ?_)
  · exact (emb1_0 _ (ix2 r l)).1
  · refine (emb1_0 _ (ix2 r l)).2.trans ?_
    rw [hv, show (4 * n.val + k.val) % 4 = k.val from by omega]; rfl

/-- A point's block of the second operand, read in the whole operand. -/
theorem XB_apply (c : Dev nD) (n : Fin 8) (k : Fin 4) (l b : Fin 1024) :
    (XB V c (4 * n.val + k.val) (ix2 l b) : EReal) = opB V c (ix2 ⟨k.val * 1024 + l.val, by omega⟩ ⟨n.val * 1024 + b.val, by omega⟩) := by
  have hv : (pt (4 * n.val + k.val)).val = 4 * n.val + k.val := Nat.mod_eq_of_lt (by omega)
  refine congrArg (opB V c) (ix2_of_val (m := 4096) (n := 8192) ?_ ?_)
  · refine (emb1_1 _ (ix2 l b)).1.trans ?_
    rw [hv, show (4 * n.val + k.val) % 4 = k.val from by omega]; rfl
  · refine (emb1_1 _ (ix2 l b)).2.trans ?_
    rw [hv, show (4 * n.val + k.val) / 4 = n.val from by omega]; rfl

/-- The output block after column block `n`: the device's own rows times the block's columns. -/
theorem own_dot (c : Dev nD) (n : Fin 8) (a b : Fin 1024) :
    (pAt (XA V) (XB V) c (4 * n.val + 3) (ix2 a b) : EReal)
      = dotAt (opA V c) (opB V c) ⟨(hx c).val * 1024 + a.val, by omega⟩ ⟨n.val * 1024 + b.val, by omega⟩ := by
  rw [pAt_last]; unfold dotAt; rw [sum_four_runs]
  refine Finset.sum_congr rfl fun k _ => Finset.sum_congr rfl fun l _ => ?_
  rw [XA_apply, XB_apply]

/-- The block for the row partner after column block `n`: the partner's rows times a half of the block's columns. -/
theorem other_dot (c : Dev nD) (n : Fin 8) (a : Fin 1024) (b : Fin 512) :
    (aAt (XA V) (XB V) c (4 * n.val + 3) (ix2 a b) : EReal)
      = dotAt (opA V c) (opB V c) ⟨(fl (hx c)).val * 1024 + a.val, by omega⟩
          ⟨n.val * 1024 + (hy c).val * 512 + b.val, by omega⟩ := by
  rw [aAt_last]; unfold dotAt; rw [sum_four_runs]
  refine Finset.sum_congr rfl fun k _ => Finset.sum_congr rfl fun l _ => ?_
  rw [XA_apply, XB_apply]
  simp only [Nat.add_assoc]

/-! ## The arrays -/

/-- The fused region's result: each device's own rows times its second operand. -/
theorem arr1 (c : Dev nD) : (dat1 V c).arrAt 2 cfg1.N
    = fun i : S1024x8192.Idx => dotAt (opA V c) (opB V c) ⟨(hx c).val * 1024 + (i 0).val, by have : (i 0).val < 1024 := (i 0).isLt; omega⟩ (i 1) := by
  refine (dat1 V c).arrAt_eq_of_cover 2 _ (fun t ht => funext fun y => ?_) fun i => ?_
  · have h3 : t.val % 4 = 3 := (flush1_2 t).mp ht
    have hN : t.val < 32 := Nat.lt_of_lt_of_eq t.isLt N_1
    obtain ⟨a, b, rfl⟩ : ∃ a b : Fin 1024, y = ix2 a b := ⟨y 0, y 1, eq_ix2 y⟩
    have hy := emb1_2 t (ix2 a b)
    obtain ⟨n, hn⟩ : ∃ n : Fin 8, t.val = 4 * n.val + 3 := ⟨⟨t.val / 4, by omega⟩, by show t.val = 4 * (t.val / 4) + 3; omega⟩
    show (pAt (XA V) (XB V) c t.val (ix2 a b) : EReal)
      = dotAt (opA V c) (opB V c) ⟨(hx c).val * 1024 + ((win1_2.rect t).emb (ix2 a b) 0).val, _⟩ ((win1_2.rect t).emb (ix2 a b) 1)
    rw [hn]
    refine (own_dot V c n a b).trans (congrArg₂ (dotAt (opA V c) (opB V c)) (Fin.ext ?_) (Fin.ext ?_))
    · exact congrArg ((hx c).val * 1024 + ·) hy.1.symm
    · refine Eq.trans ?_ hy.2.symm
      rw [hn, show (4 * n.val + 3) / 4 = n.val from by omega]; rfl
  · have h0 : (i 0).val < 1024 := (i 0).isLt
    have h1 : (i 1).val < 8192 := (i 1).isLt
    have hN : cfg1.N = 32 := N_1
    obtain ⟨t, ht⟩ : ∃ t : Fin cfg1.N, t.val = 4 * ((i 1).val / 1024) + 3 := ⟨⟨4 * ((i 1).val / 1024) + 3, by omega⟩, rfl⟩
    have e : i = (win1_2.rect t).emb (ix2 (n0 := 1024) (n1 := 1024) ⟨(i 0).val, h0⟩ ⟨(i 1).val % 1024, Nat.mod_lt _ (by decide)⟩) := by
      refine ix2_of_val (m := 1024) (n := 8192) ?_ ?_
      · rw [(emb1_2 _ _).1]; rfl
      · rw [(emb1_2 _ _).2]; show (i 1).val = t.val / 4 * 1024 + (i 1).val % 1024; omega
    exact ⟨t, (flush1_2 t).mpr (by omega), e ▸ ((cfg1.win 2).blk t).view.emb_mem_set _⟩

/-- The device half `h` came through is in the other row of the mesh. -/
theorem hx_via (c : Dev nD) (h : Fin 2) : hx (via c h) = fl (hx c) := by revert c h; decide
/-- It is in column `h`. -/
theorem hy_via (c : Dev nD) (h : Fin 2) : hy (via c h) = h := by revert c h; decide

/-- What a device has received: at every index the same rows times a device's second operand, that device in the other row
    of the mesh. -/
theorem recvd_apply (c : Dev nD) (i : S1024x8192.Idx) : ∃ d : Dev nD, hx d = fl (hx c) ∧
    (recvd (sent V) c i : EReal) = dotAt (opA V d) (opB V d) ⟨(hx c).val * 1024 + (i 0).val, by have : (i 0).val < 1024 := (i 0).isLt; omega⟩ (i 1) := by
  have h0 : (i 0).val < 1024 := (i 0).isLt
  have h1 : (i 1).val < 8192 := (i 1).isLt
  obtain ⟨n, h, b, e⟩ : ∃ (n : Fin 8) (h : Fin 2) (b : Fin 512), (i 1).val = n.val * 1024 + h.val * 512 + b.val :=
    ⟨⟨(i 1).val / 1024, by omega⟩, ⟨(i 1).val % 1024 / 512, by omega⟩, ⟨(i 1).val % 512, by omega⟩, by
      show (i 1).val = (i 1).val / 1024 * 1024 + (i 1).val % 1024 / 512 * 512 + (i 1).val % 512; omega⟩
  have ei : i = (poRect n h).emb (ix2 (n0 := 1024) (n1 := 512) ⟨(i 0).val, h0⟩ b) := by
    refine ix2_of_val (m := 1024) (n := 8192) ?_ ?_
    · show (i 0).val = 0 + 1 * (i 0).val; omega
    · show (i 1).val = (n.val * 1024 + h.val * 512) + 1 * b.val; omega
  refine ⟨via c h, hx_via c h, ?_⟩
  have er : (recvd (sent V) c i : EReal) = sent V (via c h) n (ix2 (n0 := 1024) (n1 := 512) ⟨(i 0).val, h0⟩ b) := by
    conv_lhs => rw [ei]
    exact recvd_emb (sent V) c (n, h) _
  rw [er]
  refine (stg_apply (XA V) (XB V) (via c h) n _).trans ?_
  rw [other_dot]
  refine congrArg₂ (dotAt (opA V (via c h)) (opB V (via c h))) (Fin.ext ?_) (Fin.ext ?_)
  · show (fl (hx (via c h))).val * 1024 + (i 0).val = (hx c).val * 1024 + (i 0).val
    rw [hx_via, fl_fl]
  · show n.val * 1024 + (hy (via c h)).val * 512 + b.val = (i 1).val
    rw [hy_via, e]

end Cert.KernelIdeal.Talk

end
-- ==== Proof.Ideal.Sums.lean ====
/-
  The kernel's result over the extended reals: at every index the device's own rows times its second operand plus the same
  rows times the second operand of a device in the other row of the mesh.
-/
module

public import proofs.«01_k».proof.Proof.Ideal.Products

@[expose] public section

noncomputable section

namespace Cert.KernelIdeal.Talk

open Cert.KernelIdeal Cert.KernelIdeal.Gen
open Idealize.ShloMosaic Idealize.ShloMosaic.TcCoe
open scoped BigOperators

section Add

variable (V : Dev nD → Valuation τ sig (Elt Ideal))

/-- The two partial products as the adding region finds them. -/
def partP (c : Dev nD) : S1024x8192.Idx → EReal := V c (Proc.devRef .tc main_v3_0)
def partQ (c : Dev nD) : S1024x8192.Idx → EReal := V c (Proc.devRef .tc main_v3_1)

/-- What a point of the adding region stores, at an index. -/
theorem add_apply (X : S1024x1024.Idx → Elt Ideal .f32) (Y : S1024x1024.Idx → Elt Ideal .bf16) (i : S1024x1024.Idx) :
    (k2_pay1 X Y i : EReal) = (X i : EReal) + Y i := by
  unfold k2_pay1; pointwise

/-- The adding region leaves the sum of the two partial products. -/
theorem arr2 (c : Dev nD) : (dat2 V c).arrAt 2 cfg2.N = fun i : S1024x8192.Idx => partP V c i + partQ V c i := by
  refine (dat2 V c).arrAt_eq_of_cover 2 _ (fun t ht => funext fun y => ?_) fun i => ?_
  · obtain ⟨a, b, rfl⟩ : ∃ a b : Fin 1024, y = ix2 a b := ⟨y 0, y 1, eq_ix2 y⟩
    show (k2_pay1 (blkP V c t) (blkQ V c t) (ix2 a b) : EReal)
      = partP V c ((win2_2.rect t).emb (ix2 a b)) + partQ V c ((win2_2.rect t).emb (ix2 a b))
    have hy := emb2_2 t (ix2 a b)
    have h0 := emb2_0 t (ix2 a b)
    have h1 := emb2_1 t (ix2 a b)
    rw [add_apply]
    refine congrArg₂ (fun x y : EReal => x + y) (congrArg (partP V c) (ix2_of_val (m := 1024) (n := 8192) ?_ ?_))
      (congrArg (partQ V c) (ix2_of_val (m := 1024) (n := 8192) ?_ ?_))
    · exact h0.1.trans hy.1.symm
    · exact h0.2.trans hy.2.symm
    · exact h1.1.trans hy.1.symm
    · exact h1.2.trans hy.2.symm
  · have h0 : (i 0).val < 1024 := (i 0).isLt
    have h1 : (i 1).val < 8192 := (i 1).isLt
    have hN : cfg2.N = 8 := N_2
    obtain ⟨t, ht⟩ : ∃ t : Fin cfg2.N, t.val = (i 1).val / 1024 := ⟨⟨(i 1).val / 1024, by omega⟩, rfl⟩
    have e : i = (win2_2.rect t).emb (ix2 (n0 := 1024) (n1 := 1024) ⟨(i 0).val, h0⟩ ⟨(i 1).val % 1024, Nat.mod_lt _ (by decide)⟩) := by
      refine ix2_of_val (m := 1024) (n := 8192) ?_ ?_
      · rw [(emb2_2 _ _).1]; rfl
      · rw [(emb2_2 _ _).2]; show (i 1).val = t.val * 1024 + (i 1).val % 1024; omega
    exact ⟨t, flush2_2 t, e ▸ ((cfg2.win 2).blk t).view.emb_mem_set _⟩

end Add

variable (m : (ℓ : Loc nD τ sig) → Buf (Elt Ideal) ℓ)

/-- A matrix with a leading unit axis. -/
def lifted {α : Type} (X : S1024x8192.Idx → α) : S1x1024x8192.Idx → α :=
  shapeCast S1x1024x8192 X shapeCasts_S1024x8192_S1x1024x8192

/-- The matrix with the unit axis at an index. -/
theorem lifted_apply {α : Type} (X : S1024x8192.Idx → α) (i : S1x1024x8192.Idx) : lifted X i = X (ix2 (i 1) (i 2)) := by
  unfold lifted; pointwise

/-- The program's last operation adds the unit axis. -/
theorem after_v5 (U : Valuation τ sig (Elt Ideal)) :
    StableHlo.after hostOps3 U (Proc.devRef .tc main_v5) = lifted (U (Proc.devRef .tc main_v4)) := by
  after_results; rfl

/-- The result at an index. -/
theorem V5_v5 (c : Dev nD) (i : S1x1024x8192.Idx) : ∃ d : Dev nD, hx d = fl (hx c) ∧
    (V5 m (outs m) c (Proc.devRef .tc main_v5) i : EReal)
      = dotAt (opA (W2 m) c) (opB (W2 m) c) ⟨(hx c).val * 1024 + (i 1).val, by have : (i 1).val < 1024 := (i 1).isLt; omega⟩ (i 2)
        + dotAt (opA (W2 m) d) (opB (W2 m) d) ⟨(hx c).val * 1024 + (i 1).val, by have : (i 1).val < 1024 := (i 1).isLt; omega⟩ (i 2) := by
  obtain ⟨d, hd, e⟩ := recvd_apply (W2 m) c (ix2 (i 1) (i 2))
  refine ⟨d, hd, ?_⟩
  have e5 : V5 m (outs m) c (Proc.devRef .tc main_v5) = lifted (W4 m c (Proc.devRef .tc main_v4)) := by
    show StableHlo.after hostOps3 (V4 m (outs m) c) (Proc.devRef .tc main_v5) = _
    rw [after_v5, V4_eq]
  have e4 : W4 m c (Proc.devRef .tc main_v4) = fun i : S1024x8192.Idx => partP (W3 m) c i + partQ (W3 m) c i := by
    unfold W4; rw [Function.update_self, arr2]
  have eq : partQ (W3 m) c = recvd (sent (W2 m)) c := by
    unfold partQ W3; rw [Function.update_self]
  have ep : partP (W3 m) c = (dat1 (W2 m) c).arrAt 2 cfg1.N := by
    unfold partP W3; rw [Function.update_of_ne (by decide), Function.update_self]
  refine (congrFun e5 i).trans ((lifted_apply _ i).trans ((congrFun e4 _).trans (congrArg₂ (fun x y : EReal => x + y) ?_ ?_)))
  · rw [ep, arr1]; rfl
  · rw [eq]; exact e

end Cert.KernelIdeal.Talk

end
-- ==== Proof.Ideal.Whole.lean ====
/-
  The reference's product over the whole arrays, cut into the two halves of the contracted axis that the two rows of the mesh
  hold, and the kernel's result as each device's block of it.
-/
module

public import proofs.«01_k».proof.Proof.Ideal.Sums
public import proofs.«01_k».proof.Proof.Gen.ReferenceIdeal

@[expose] public section

noncomputable section

namespace Cert.KernelIdeal.Talk

open Cert.KernelIdeal Cert.KernelIdeal.Gen
open Idealize.ShloMosaic Idealize.ShloMosaic.TcCoe
open scoped BigOperators

/-- The whole operands' shapes. -/
abbrev WA : Shape := ⟨4, ![1, 2048, 64, 128]⟩
abbrev WB : Shape := ⟨2, ![8192, 8192]⟩
abbrev WO : Shape := ⟨3, ![1, 2048, 8192]⟩

variable (A : WA.Idx → EReal) (B : WB.Idx → EReal)

/-- One product of row `r` of the first operand, its heads and features counted as one axis, with column `j` of the second. -/
def termAt (r : Fin 2048) (j q : Fin 8192) : EReal :=
  A (ix4 (n0 := 1) (n2 := 64) (n3 := 128) 0 r ⟨q.val / 128, by omega⟩ ⟨q.val % 128, Nat.mod_lt _ (by decide)⟩) * B (ix2 q j)

/-- The reference's result. -/
def whole : WO.Idx → EReal :=
  Host.dotGeneral (F := Ideal) (φ₁ := .f32) (φ₂ := .f32) Cert.ReferenceIdeal.dot_S1x2048x8192_S8192x8192_S1x2048x8192_2_0_01_1_n_n none
    (shapeCast Cert.ReferenceIdeal.S1x2048x8192 A Cert.ReferenceIdeal.Gen.shapeCasts_S1x2048x64x128_S1x2048x8192) B

/-- The reference's result at an index: the sum over the whole contracted axis. -/
theorem whole_apply (i : WO.Idx) : whole A B i = ∑ q : Fin 8192, termAt A B (i 1) (i 2) q := by
  unfold whole; pointwise; rfl

/-- The half of a row's products that row `x` of the mesh holds. -/
def halfAt (x : Fin 2) (r : Fin 2048) (j : Fin 8192) : EReal :=
  ∑ q : Fin 4096, termAt A B r j ⟨x.val * 4096 + q.val, by omega⟩

/-- The two halves make the row, whichever comes first. -/
theorem halves (x : Fin 2) (r : Fin 2048) (j : Fin 8192) :
    ∑ q : Fin 8192, termAt A B r j q = halfAt A B x r j + halfAt A B (fl x) r j := by
  have e : ∑ q : Fin 8192, termAt A B r j q = halfAt A B 0 r j + halfAt A B 1 r j := by
    rw [Fin.sum_univ_two_halves 4096 4096 rfl]
    refine congrArg₂ (· + ·) (Finset.sum_congr rfl fun q _ => congrArg _ (Fin.ext ?_)) (Finset.sum_congr rfl fun q _ => congrArg _ (Fin.ext ?_))
    · show q.val = 0 * 4096 + q.val; omega
    · show 4096 + q.val = 1 * 4096 + q.val; omega
  rw [e]
  match x with
  | 0 => rfl
  | 1 => exact add_comm _ _

/-- The blocks of the whole arrays that device `c` is given. -/
abbrev blkA (c : Dev nD) : S1x2048x32x128.Idx → EReal :=
  Layout.blockN S1x2048x32x128 WA (Layout.meshBlock [2, 2] ![[], [], [0], []] c) A
abbrev blkB (c : Dev nD) : S4096x8192.Idx → EReal :=
  Layout.blockN S4096x8192 WB (Layout.meshBlock [2, 2] ![[0], []] c) B

/-- A device's block along a dimension cut by rows of the mesh is its row. -/
theorem lin_hx (c : Dev nD) : Layout.meshLin [2, 2] c.val [0] = (hx c).val := by revert c; decide

variable (m : (ℓ : Loc nD τ sig) → Buf (Elt Ideal) ℓ)

/-- On a device holding its blocks of the whole operands, the fused region's products are its half of the row's. -/
theorem dot_half (d : Dev nD) (hA : m ((d : Thread nD τ).loc main_arg0) = blkA A d) (hB : m ((d : Thread nD τ).loc main_arg1) = blkB B d)
    (r : Fin 2048) (j : Fin 8192) : dotAt (opA (W2 m) d) (opB (W2 m) d) r j = halfAt A B (hx d) r j := by
  have eA : opA (W2 m) d = merged (dropped (blkA A d)) := by unfold opA; rw [W2_v2, hA]
  have eB : opB (W2 m) d = blkB B d := by unfold opB; rw [W2_arg1, hB]
  unfold dotAt halfAt termAt
  refine Finset.sum_congr rfl fun q _ => ?_
  rw [eA, eB, merged_apply, dropped_apply]
  have hl := lin_hx d
  refine congrArg₂ (fun x y : EReal => x * y) (congrArg A (funext fun a => Fin.ext ?_)) (congrArg B (ix2_of_val (m := 8192) (n := 8192) ?_ ?_))
  · match a with
    | ⟨0, _⟩ => rfl
    | ⟨1, _⟩ => show 0 * 2048 + r.val = r.val; omega
    | ⟨2, _⟩ =>
      show Layout.meshLin [2, 2] d.val [0] * 32 + q.val / 128 = ((hx d).val * 4096 + q.val) / 128
      rw [hl]; omega
    | ⟨3, _⟩ => show 0 * 128 + q.val % 128 = ((hx d).val * 4096 + q.val) % 128; omega
  · show Layout.meshLin [2, 2] d.val [0] * 4096 + q.val = (hx d).val * 4096 + q.val
    rw [hl]
  · show 0 * 8192 + j.val = j.val; omega

/-- From devices holding their blocks of the whole operands, the kernel leaves on every device its block of the reference's
    result. -/
theorem result_block (hA : ∀ d : Dev nD, m ((d : Thread nD τ).loc main_arg0) = blkA A d) (hB : ∀ d : Dev nD, m ((d : Thread nD τ).loc main_arg1) = blkB B d)
    (c : Dev nD) : V5 m (outs m) c (Proc.devRef .tc main_v5)
      = Layout.blockN S1x1024x8192 WO (Layout.meshBlock [2, 2] ![[], [0], []] c) (whole A B) := by
  funext i
  obtain ⟨d, hd, e⟩ := V5_v5 m c i
  have ed := dot_half A B m d (hA d) (hB d)
  rw [hd] at ed
  refine e.trans ((congrArg₂ (fun x y : EReal => x + y) (dot_half A B m c (hA c) (hB c) _ _) (ed _ _)).trans
    ((halves A B (hx c) _ _).symm.trans (Eq.trans ?_ (whole_apply A B _).symm)))
  refine Finset.sum_congr rfl fun q _ => ?_
  refine congrArg₂ (fun r j => termAt A B r j q) (Fin.ext ?_) (Fin.ext ?_)
  · show (hx c).val * 1024 + (i 1).val = Layout.meshLin [2, 2] c.val [0] * 1024 + (i 1).val
    rw [lin_hx]
  · show (i 2).val = 0 * 8192 + (i 2).val; omega

end Cert.KernelIdeal.Talk

end
-- ==== Proof.lean ====
/-
  The claims about the kernel, put together: the runs are Proof/Float/Run.lean and Proof/Ideal/Run.lean, the kernel's result
  against the reference's is Proof/Ideal/Whole.lean, the reference's run is generated.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Float.Run
public import proofs.«01_k».proof.Proof.Ideal.Run
public import proofs.«01_k».proof.Proof.Ideal.Whole
public import Idealize.ShloMosaic.Adequacy
public import Idealize.ShloMosaic.Init

@[expose] public section

noncomputable section

namespace Cert.Proof

open Idealize.ShloMosaic Idealize.SL.Sem Cert.Kernel

/-- The kernel's run keeps its arguments and returns every counter to zero. -/
theorem kernel_quiescent : Cert.quiescent_Kernel := fun m g _ =>
  (θ_run Cert.Kernel.defs _ _).mono (fun _ h => ⟨fun c => (h.1 c).2, h.2⟩) (Cert.Kernel.Talk.run_main (F := Bits) m g)

/-- So does the run in exact arithmetic. -/
theorem ideal_quiescent : Cert.quiescent_KernelIdeal := fun m g _ =>
  (θ_run Cert.KernelIdeal.defs _ _).mono (fun _ h => ⟨fun c => (h.1 c).2, h.2⟩) (Cert.KernelIdeal.Talk.run_main (F := Ideal) m g)

/-- The reference keeps its arguments and has no counter. -/
theorem reference_quiescent : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- In exact arithmetic every device ends holding its block of the reference's result. -/
theorem algebraic : Cert.algebraic_KernelIdeal_ReferenceIdeal := fun m g m' g' _ hargs =>
  ⟨Cert.KernelIdeal.Talk.whole (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono (fun _ h c => ⟨(h.1 c).1.trans
      (Cert.KernelIdeal.Talk.result_block _ _ m (fun d => (hargs d).1) (fun d => (hargs d).2) c), (h.1 c).2⟩)
      (Cert.KernelIdeal.Talk.run_main (F := Ideal) m g),
    (θ_run Cert.ReferenceIdeal.defs _ _).mono (fun _ h => h 0) (Cert.ReferenceIdeal.Value.run (F := Ideal) m' g')⟩

/-- Every claim of the certificate. -/
theorem claim : Cert.Claim := ⟨Cert.Kernel.Gen.facts, Cert.KernelIdeal.Gen.facts, Cert.ReferenceIdeal.Gen.facts,
  kernel_quiescent, ideal_quiescent, reference_quiescent, trivial, algebraic⟩

end Cert.Proof

end
